-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35_0) = v0 c
          ∧ r.2.mem ((c.tc : Thread Cert.ReferenceIdeal.nD Cert.ReferenceIdeal.τ).loc Cert.ReferenceIdeal.main_v35_1) = v1 c
          ∧ r.2.mem ((c.tc : Thread Cert.ReferenceIdeal.nD Cert.ReferenceIdeal.τ).loc Cert.ReferenceIdeal.main_v35_2) = v2 c
          ∧ r.2.mem ((c.tc : Thread Cert.ReferenceIdeal.nD Cert.ReferenceIdeal.τ).loc Cert.ReferenceIdeal.main_v35_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000000x64 : Shape := ⟨2, ![5000000, 64]⟩
abbrev S5000000 : Shape := ⟨1, ![5000000]⟩
abbrev S163840 : Shape := ⟨1, ![163840]⟩
abbrev S1280x512 : Shape := ⟨2, ![1280, 512]⟩
abbrev S1280x64 : Shape := ⟨2, ![1280, 64]⟩
abbrev S163840x64 : Shape := ⟨2, ![163840, 64]⟩
abbrev S1280x1x64 : Shape := ⟨3, ![1280, 1, 64]⟩
abbrev S1280x512x64 : Shape := ⟨3, ![1280, 512, 64]⟩
abbrev S655360x64 : Shape := ⟨2, ![655360, 64]⟩
abbrev S655360 : Shape := ⟨1, ![655360]⟩
abbrev S_ : Shape := ⟨0, ![]⟩
abbrev S655360x1 : Shape := ⟨2, ![655360, 1]⟩
abbrev S163840x1 : Shape := ⟨2, ![163840, 1]⟩
abbrev S163840x16x4 : Shape := ⟨3, ![163840, 16, 4]⟩
abbrev S163840x16 : Shape := ⟨2, ![163840, 16]⟩
abbrev S16x163840 : Shape := ⟨2, ![16, 163840]⟩
abbrev S64x163840 : Shape := ⟨2, ![64, 163840]⟩
abbrev S1280x128 : Shape := ⟨2, ![1280, 128]⟩
abbrev S64x4096 : Shape := ⟨2, ![64, 4096]⟩
abbrev S16x4096 : Shape := ⟨2, ![16, 4096]⟩
abbrev S32x128 : Shape := ⟨2, ![32, 128]⟩
abbrev S64x1024 : Shape := ⟨2, ![64, 1024]⟩
abbrev S64x128 : Shape := ⟨2, ![64, 128]⟩
abbrev S128 : Shape := ⟨1, ![128]⟩
abbrev S1x128 : Shape := ⟨2, ![1, 128]⟩
abbrev S8x128 : Shape := ⟨2, ![8, 128]⟩
abbrev S16x128 : Shape := ⟨2, ![16, 128]⟩

abbrev nBuf : Space → Nat
  | .hbm => 68
  | .vmem => 21
  | .smem => 0
  | _ => 0

abbrev bufTy : (tb : Table) → Fin (tcTables nBuf tb) → BufTy
  | .hbm, ⟨0, _⟩ => ⟨S5000000x64, .i8⟩
  | .hbm, ⟨1, _⟩ => ⟨S5000000, .f32⟩
  | .hbm, ⟨2, _⟩ => ⟨S5000000, .f32⟩
  | .hbm, ⟨3, _⟩ => ⟨S5000000, .f32⟩
  | .hbm, ⟨4, _⟩ => ⟨S163840, .i32⟩
  | .hbm, ⟨5, _⟩ => ⟨S1280x512, .i32⟩
  | .hbm, ⟨6, _⟩ => ⟨S1280x64, .f32⟩
  | .hbm, ⟨7, _⟩ => ⟨S163840x64, .i32⟩
  | .hbm, ⟨8, _⟩ => ⟨S1280x1x64, .f32⟩
  | .hbm, ⟨9, _⟩ => ⟨S1280x512x64, .f32⟩
  | .hbm, ⟨10, _⟩ => ⟨S655360x64, .f32⟩
  | .hbm, ⟨11, _⟩ => ⟨S655360, .i32⟩
  | .hbm, ⟨12, _⟩ => ⟨S_, .f32⟩
  | .hbm, ⟨13, _⟩ => ⟨S163840x64, .f32⟩
  | .hbm, ⟨14, _⟩ => ⟨S655360x1, .i32⟩
  | .hbm, ⟨15, _⟩ => ⟨S163840x64, .f32⟩
  | .hbm, ⟨16, _⟩ => ⟨S_, .i32⟩
  | .hbm, ⟨17, _⟩ => ⟨S163840, .i32⟩
  | .hbm, ⟨18, _⟩ => ⟨S163840, .i1⟩
  | .hbm, ⟨19, _⟩ => ⟨S_, .i32⟩
  | .hbm, ⟨20, _⟩ => ⟨S163840, .i32⟩
  | .hbm, ⟨21, _⟩ => ⟨S163840, .i32⟩
  | .hbm, ⟨22, _⟩ => ⟨S163840, .i32⟩
  | .hbm, ⟨23, _⟩ => ⟨S163840x1, .i32⟩
  | .hbm, ⟨24, _⟩ => ⟨S163840x64, .i8⟩
  | .hbm, ⟨25, _⟩ => ⟨S163840x16x4, .i8⟩
  | .hbm, ⟨26, _⟩ => ⟨S163840x16, .i32⟩
  | .hbm, ⟨27, _⟩ => ⟨S16x163840, .i32⟩
  | .hbm, ⟨28, _⟩ => ⟨S64x163840, .f32⟩
  | .hbm, ⟨29, _⟩ => ⟨S_, .i32⟩
  | .hbm, ⟨30, _⟩ => ⟨S163840, .i32⟩
  | .hbm, ⟨31, _⟩ => ⟨S163840, .i1⟩
  | .hbm, ⟨32, _⟩ => ⟨S_, .i32⟩
  | .hbm, ⟨33, _⟩ => ⟨S163840, .i32⟩
  | .hbm, ⟨34, _⟩ => ⟨S163840, .i32⟩
  | .hbm, ⟨35, _⟩ => ⟨S163840, .i32⟩
  | .hbm, ⟨36, _⟩ => ⟨S163840x1, .i32⟩
  | .hbm, ⟨37, _⟩ => ⟨S163840, .f32⟩
  | .hbm, ⟨38, _⟩ => ⟨S1280x128, .f32⟩
  | .hbm, ⟨39, _⟩ => ⟨S_, .i32⟩
  | .hbm, ⟨40, _⟩ => ⟨S163840, .i32⟩
  | .hbm, ⟨41, _⟩ => ⟨S163840, .i1⟩
  | .hbm, ⟨42, _⟩ => ⟨S_, .i32⟩
  | .hbm, ⟨43, _⟩ => ⟨S163840, .i32⟩
  | .hbm, ⟨44, _⟩ => ⟨S163840, .i32⟩
  | .hbm, ⟨45, _⟩ => ⟨S163840, .i32⟩
  | .hbm, ⟨46, _⟩ => ⟨S163840x1, .i32⟩
  | .hbm, ⟨47, _⟩ => ⟨S163840, .f32⟩
  | .hbm, ⟨48, _⟩ => ⟨S1280x128, .f32⟩
  | .hbm, ⟨49, _⟩ => ⟨S_, .i32⟩
  | .hbm, ⟨50, _⟩ => ⟨S163840, .i32⟩
  | .hbm, ⟨51, _⟩ => ⟨S163840, .i1⟩
  | .hbm, ⟨52, _⟩ => ⟨S_, .i32⟩
  | .hbm, ⟨53, _⟩ => ⟨S163840, .i32⟩
  | .hbm, ⟨54, _⟩ => ⟨S163840, .i32⟩
  | .hbm, ⟨55, _⟩ => ⟨S163840, .i32⟩
  | .hbm, ⟨56, _⟩ => ⟨S163840x1, .i32⟩
  | .hbm, ⟨57, _⟩ => ⟨S163840, .f32⟩
  | .hbm, ⟨58, _⟩ => ⟨S1280x128, .f32⟩
  | .hbm, ⟨59, _⟩ => ⟨S64x163840, .i32⟩
  | .hbm, ⟨60, _⟩ => ⟨S64x163840, .i8⟩
  | .hbm, ⟨61, _⟩ => ⟨S1280x128, .f32⟩
  | .hbm, ⟨62, _⟩ => ⟨S1280x128, .f32⟩
  | .hbm, ⟨63, _⟩ => ⟨S1280x128, .f32⟩
  | .hbm, ⟨64, _⟩ => ⟨S163840x64, .i8⟩
  | .hbm, ⟨65, _⟩ => ⟨S163840, .f32⟩
  | .hbm, ⟨66, _⟩ => ⟨S163840, .f32⟩
  | .hbm, ⟨67, _⟩ => ⟨S163840, .f32⟩
  | .local _ .vmem, ⟨0, _⟩ => ⟨S64x4096, .f32⟩
  | .local _ .vmem, ⟨1, _⟩ => ⟨S64x4096, .f32⟩
  | .local _ .vmem, ⟨2, _⟩ => ⟨S16x4096, .i32⟩
  | .local _ .vmem, ⟨3, _⟩ => ⟨S16x4096, .i32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S64x4096, .i32⟩
  | .local _ .vmem, ⟨11, _⟩ => ⟨S64x4096, .i32⟩
  | .local _ .vmem, ⟨12, _⟩ => ⟨S64x4096, .i8⟩
  | .local _ .vmem, ⟨13, _⟩ => ⟨S64x4096, .i8⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S64x1024, .f32⟩
  | _, _ => ⟨S5000000x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev main_v43_2 : Ref sig .tc := ⟨.hbm, 62, rfl⟩
abbrev main_v43_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  v3
def k0_mult2 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c0_i32_3 : BitVec 32 := 0#32
  let v5 : BitVec 32 := Scalar.addi v3 c0_i32_3
  let c128_i32 : BitVec 32 := 128#32
  let v6 : BitVec 32 := Scalar.muli v5 c128_i32
  v6
def k0_off1 (k0_t1 : Fin k0_t1_loop.trips) (c0_i32_3 : BitVec 32) : Fin 2 → Nat :=
  let c0 : Index := 0#32
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let v5 : BitVec 32 := Scalar.addi v3 c0_i32_3
  let c128_i32 : BitVec 32 := 128#32
  let v6 : BitVec 32 := Scalar.muli v5 c128_i32
  let v7 : BitVec 32 := v6
  let v8 : Index := Scalar.indexCast v7
  ![0, v8.toNat]
def k0_mult3 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c1_i32_4 : BitVec 32 := 1#32
  let v14 : BitVec 32 := Scalar.addi v3 c1_i32_4
  let c128_i32_5 : BitVec 32 := 128#32
  let v15 : BitVec 32 := Scalar.muli v14 c128_i32_5
  v15
def k0_mult4 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c2_i32 : BitVec 32 := 2#32
  let v23 : BitVec 32 := Scalar.addi v3 c2_i32
  let c128_i32_8 : BitVec 32 := 128#32
  let v24 : BitVec 32 := Scalar.muli v23 c128_i32_8
  v24
def k0_mult5 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c3_i32 : BitVec 32 := 3#32
  let v32 : BitVec 32 := Scalar.addi v3 c3_i32
  let c128_i32_11 : BitVec 32 := 128#32
  let v33 : BitVec 32 := Scalar.muli v32 c128_i32_11
  v33
def k0_mult6 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c4_i32_14 : BitVec 32 := 4#32
  let v41 : BitVec 32 := Scalar.addi v3 c4_i32_14
  let c128_i32_15 : BitVec 32 := 128#32
  let v42 : BitVec 32 := Scalar.muli v41 c128_i32_15
  v42
def k0_mult7 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c5_i32 : BitVec 32 := 5#32
  let v50 : BitVec 32 := Scalar.addi v3 c5_i32
  let c128_i32_18 : BitVec 32 := 128#32
  let v51 : BitVec 32 := Scalar.muli v50 c128_i32_18
  v51
def k0_mult8 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c6_i32 : BitVec 32 := 6#32
  let v59 : BitVec 32 := Scalar.addi v3 c6_i32
  let c128_i32_21 : BitVec 32 := 128#32
  let v60 : BitVec 32 := Scalar.muli v59 c128_i32_21
  v60
def k0_mult9 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c7_i32 : BitVec 32 := 7#32
  let v68 : BitVec 32 := Scalar.addi v3 c7_i32
  let c128_i32_24 : BitVec 32 := 128#32
  let v69 : BitVec 32 := Scalar.muli v68 c128_i32_24
  v69
def k0_off2 (k0_t1 : Fin k0_t1_loop.trips) : Fin 2 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let v4 : BitVec 32 := v3
  let v78 : Index := Scalar.indexCast v4
  let c0_27 : Index := 0#32
  ![v78.toNat, 0]
def k0_mult10 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c0_i32_34 : BitVec 32 := 0#32
  let v97 : BitVec 32 := Scalar.addi v3 c0_i32_34
  let c128_i32_35 : BitVec 32 := 128#32
  let v98 : BitVec 32 := Scalar.muli v97 c128_i32_35
  v98
def k0_off3 (k0_t1 : Fin k0_t1_loop.trips) (c0_i32_34 : BitVec 32) : Fin 2 → Nat :=
  let c0_36 : Index := 0#32
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let v97 : BitVec 32 := Scalar.addi v3 c0_i32_34
  let c128_i32_35 : BitVec 32 := 128#32
  let v98 : BitVec 32 := Scalar.muli v97 c128_i32_35
  let v99 : BitVec 32 := v98
  let v100 : Index := Scalar.indexCast v99
  ![0, v100.toNat]
def k0_mult11 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c1_i32_42 : BitVec 32 := 1#32
  let v126 : BitVec 32 := Scalar.addi v3 c1_i32_42
  let c128_i32_43 : BitVec 32 := 128#32
  let v127 : BitVec 32 := Scalar.muli v126 c128_i32_43
  v127
def k0_mult12 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c2_i32_49 : BitVec 32 := 2#32
  let v155 : BitVec 32 := Scalar.addi v3 c2_i32_49
  let c128_i32_50 : BitVec 32 := 128#32
  let v156 : BitVec 32 := Scalar.muli v155 c128_i32_50
  v156
def k0_mult13 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c3_i32_56 : BitVec 32 := 3#32
  let v184 : BitVec 32 := Scalar.addi v3 c3_i32_56
  let c128_i32_57 : BitVec 32 := 128#32
  let v185 : BitVec 32 := Scalar.muli v184 c128_i32_57
  v185
def k0_mult14 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c4_i32_63 : BitVec 32 := 4#32
  let v213 : BitVec 32 := Scalar.addi v3 c4_i32_63
  let c128_i32_64 : BitVec 32 := 128#32
  let v214 : BitVec 32 := Scalar.muli v213 c128_i32_64
  v214
def k0_mult15 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c5_i32_70 : BitVec 32 := 5#32
  let v242 : BitVec 32 := Scalar.addi v3 c5_i32_70
  let c128_i32_71 : BitVec 32 := 128#32
  let v243 : BitVec 32 := Scalar.muli v242 c128_i32_71
  v243
def k0_mult16 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c6_i32_77 : BitVec 32 := 6#32
  let v271 : BitVec 32 := Scalar.addi v3 c6_i32_77
  let c128_i32_78 : BitVec 32 := 128#32
  let v272 : BitVec 32 := Scalar.muli v271 c128_i32_78
  v272
def k0_mult17 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c7_i32_84 : BitVec 32 := 7#32
  let v300 : BitVec 32 := Scalar.addi v3 c7_i32_84
  let c128_i32_85 : BitVec 32 := 128#32
  let v301 : BitVec 32 := Scalar.muli v300 c128_i32_85
  v301
def k0_mult18 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c0_i32_96 : BitVec 32 := 0#32
  let v342 : BitVec 32 := Scalar.addi v3 c0_i32_96
  let c128_i32_97 : BitVec 32 := 128#32
  let v343 : BitVec 32 := Scalar.muli v342 c128_i32_97
  v343
def k0_mult19 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c1_i32_106 : BitVec 32 := 1#32
  let v370 : BitVec 32 := Scalar.addi v3 c1_i32_106
  let c128_i32_107 : BitVec 32 := 128#32
  let v371 : BitVec 32 := Scalar.muli v370 c128_i32_107
  v371
def k0_mult20 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c2_i32_116 : BitVec 32 := 2#32
  let v398 : BitVec 32 := Scalar.addi v3 c2_i32_116
  let c128_i32_117 : BitVec 32 := 128#32
  let v399 : BitVec 32 := Scalar.muli v398 c128_i32_117
  v399
def k0_mult21 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c3_i32_126 : BitVec 32 := 3#32
  let v426 : BitVec 32 := Scalar.addi v3 c3_i32_126
  let c128_i32_127 : BitVec 32 := 128#32
  let v427 : BitVec 32 := Scalar.muli v426 c128_i32_127
  v427
def k0_mult22 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c4_i32_136 : BitVec 32 := 4#32
  let v454 : BitVec 32 := Scalar.addi v3 c4_i32_136
  let c128_i32_137 : BitVec 32 := 128#32
  let v455 : BitVec 32 := Scalar.muli v454 c128_i32_137
  v455
def k0_mult23 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c5_i32_146 : BitVec 32 := 5#32
  let v482 : BitVec 32 := Scalar.addi v3 c5_i32_146
  let c128_i32_147 : BitVec 32 := 128#32
  let v483 : BitVec 32 := Scalar.muli v482 c128_i32_147
  v483
def k0_mult24 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c6_i32_156 : BitVec 32 := 6#32
  let v510 : BitVec 32 := Scalar.addi v3 c6_i32_156
  let c128_i32_157 : BitVec 32 := 128#32
  let v511 : BitVec 32 := Scalar.muli v510 c128_i32_157
  v511
def k0_mult25 (k0_t1 : Fin k0_t1_loop.trips) : BitVec 32 :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v1 : BitVec 32 := Scalar.muli arg12 c1_i32_1
  let v2 : BitVec 32 := Scalar.addi c0_i32_2 v1
  let c8_i32 : BitVec 32 := 8#32
  let v3 : BitVec 32 := Scalar.muli v2 c8_i32
  let c7_i32_166 : BitVec 32 := 7#32
  let v538 : BitVec 32 := Scalar.addi v3 c7_i32_166
  let c128_i32_167 : BitVec 32 := 128#32
  let v539 : BitVec 32 := Scalar.muli v538 c128_i32_167
  v539
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S5000000x64 : Shape := ⟨2, ![5000000, 64]⟩
abbrev S5000000 : Shape := ⟨1, ![5000000]⟩
abbrev S163840 : Shape := ⟨1, ![163840]⟩
abbrev S1280x512 : Shape := ⟨2, ![1280, 512]⟩
abbrev S1280x64 : Shape := ⟨2, ![1280, 64]⟩
abbrev S163840x64 : Shape := ⟨2, ![163840, 64]⟩
abbrev S1280x1x64 : Shape := ⟨3, ![1280, 1, 64]⟩
abbrev S1280x512x64 : Shape := ⟨3, ![1280, 512, 64]⟩
abbrev S655360x64 : Shape := ⟨2, ![655360, 64]⟩
abbrev S655360 : Shape := ⟨1, ![655360]⟩
abbrev S_ : Shape := ⟨0, ![]⟩
abbrev S655360x1 : Shape := ⟨2, ![655360, 1]⟩
abbrev S163840x1 : Shape := ⟨2, ![163840, 1]⟩

abbrev nBuf : Space → Nat
  | .hbm => 56
  | .vmem => 10
  | .smem => 0
  | _ => 0

abbrev bufTy : (tb : Table) → Fin (tcTables nBuf tb) → BufTy
  | .hbm, ⟨0, _⟩ => ⟨S5000000x64, .i8⟩
  | .hbm, ⟨1, _⟩ => ⟨S5000000, .f32⟩
  | .hbm, ⟨2, _⟩ => ⟨S5000000, .f32⟩
  | .hbm, ⟨3, _⟩ => ⟨S5000000, .f32⟩
  | .hbm, ⟨4, _⟩ => ⟨S163840, .i32⟩
  | .hbm, ⟨5, _⟩ => ⟨S1280x512, .i32⟩
  | .hbm, ⟨6, _⟩ => ⟨S1280x64, .f32⟩
  | .hbm, ⟨7, _⟩ => ⟨S163840x64, .i32⟩
  | .hbm, ⟨8, _⟩ => ⟨S1280x1x64, .f32⟩
  | .hbm, ⟨9, _⟩ => ⟨S1280x512x64, .f32⟩
  | .hbm, ⟨10, _⟩ => ⟨S655360x64, .f32⟩
  | .hbm, ⟨11, _⟩ => ⟨S655360, .i32⟩
  | .hbm, ⟨12, _⟩ => ⟨S_, .f32⟩
  | .hbm, ⟨13, _⟩ => ⟨S163840x64, .f32⟩
  | .hbm, ⟨14, _⟩ => ⟨S655360x1, .i32⟩
  | .hbm, ⟨15, _⟩ => ⟨S163840x64, .f32⟩
  | .hbm, ⟨16, _⟩ => ⟨S_, .i32⟩
  | .hbm, ⟨17, _⟩ => ⟨S163840, .i32⟩
  | .hbm, ⟨18, _⟩ => ⟨S163840, .i1⟩
  | .hbm, ⟨19, _⟩ => ⟨S_, .i32⟩
  | .hbm, ⟨20, _⟩ => ⟨S163840, .i32⟩
  | .hbm, ⟨21, _⟩ => ⟨S163840, .i32⟩
  | .hbm, ⟨22, _⟩ => ⟨S163840, .i32⟩
  | .hbm, ⟨23, _⟩ => ⟨S163840x1, .i32⟩
  | .hbm, ⟨24, _⟩ => ⟨S163840x64, .i8⟩
  | .hbm, ⟨25, _⟩ => ⟨S_, .i32⟩
  | .hbm, ⟨26, _⟩ => ⟨S163840, .i32⟩
  | .hbm, ⟨27, _⟩ => ⟨S163840, .i1⟩
  | .hbm, ⟨28, _⟩ => ⟨S_, .i32⟩
  | .hbm, ⟨29, _⟩ => ⟨S163840, .i32⟩
  | .hbm, ⟨30, _⟩ => ⟨S163840, .i32⟩
  | .hbm, ⟨31, _⟩ => ⟨S163840, .i32⟩
  | .hbm, ⟨32, _⟩ => ⟨S163840x1, .i32⟩
  | .hbm, ⟨33, _⟩ => ⟨S163840, .f32⟩
  | .hbm, ⟨34, _⟩ => ⟨S_, .i32⟩
  | .hbm, ⟨35, _⟩ => ⟨S163840, .i32⟩
  | .hbm, ⟨36, _⟩ => ⟨S163840, .i1⟩
  | .hbm, ⟨37, _⟩ => ⟨S_, .i32⟩
  | .hbm, ⟨38, _⟩ => ⟨S163840, .i32⟩
  | .hbm, ⟨39, _⟩ => ⟨S163840, .i32⟩
  | .hbm, ⟨40, _⟩ => ⟨S163840, .i32⟩
  | .hbm, ⟨41, _⟩ => ⟨S163840x1, .i32⟩
  | .hbm, ⟨42, _⟩ => ⟨S163840, .f32⟩
  | .hbm, ⟨43, _⟩ => ⟨S_, .i32⟩
  | .hbm, ⟨44, _⟩ => ⟨S163840, .i32⟩
  | .hbm, ⟨45, _⟩ => ⟨S163840, .i1⟩
  | .hbm, ⟨46, _⟩ => ⟨S_, .i32⟩
  | .hbm, ⟨47, _⟩ => ⟨S163840, .i32⟩
  | .hbm, ⟨48, _⟩ => ⟨S163840, .i32⟩
  | .hbm, ⟨49, _⟩ => ⟨S163840, .i32⟩
  | .hbm, ⟨50, _⟩ => ⟨S163840x1, .i32⟩
  | .hbm, ⟨51, _⟩ => ⟨S163840, .f32⟩
  | .hbm, ⟨52, _⟩ => ⟨S163840x64, .i8⟩
  | .hbm, ⟨53, _⟩ => ⟨S163840, .f32⟩
  | .hbm, ⟨54, _⟩ => ⟨S163840, .f32⟩
  | .hbm, ⟨55, _⟩ => ⟨S163840, .f32⟩
  | .local _ .vmem, ⟨0, _⟩ => ⟨S163840x64, .i8⟩
  | .local _ .vmem, ⟨1, _⟩ => ⟨S163840, .f32⟩
  | .local _ .vmem, ⟨2, _⟩ => ⟨S163840, .f32⟩
  | .local _ .vmem, ⟨3, _⟩ => ⟨S163840, .f32⟩
  | .local _ .vmem, ⟨4, _⟩ => ⟨S163840x64, .f32⟩
  | .local _ .vmem, ⟨5, _⟩ => ⟨S163840x64, .i32⟩
  | .local _ .vmem, ⟨6, _⟩ => ⟨S163840x64, .i8⟩
  | .local _ .vmem, ⟨7, _⟩ => ⟨S163840, .f32⟩
  | .local _ .vmem, ⟨8, _⟩ => ⟨S163840, .f32⟩
  | .local _ .vmem, ⟨9, _⟩ => ⟨S163840, .f32⟩
  | _, _ => ⟨S5000000x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S163840x64 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S163840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S163840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S163840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S163840x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S163840x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S163840x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S163840 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S163840 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S163840 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KFrame.lean ====
/-
  The frame of the kernel as it is printed, at any values: every run ends, its arguments unchanged and every semaphore
  counter at zero. Nothing is said of what the body stores; the counted loop is passed by an invariant that holds the
  inputs at their contents and the outputs at some contents.
-/
module

public import proofs.«01_k».proof.Proof.Gen.Kernel.Frame.Runs
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

/-! ## The body's run -/

section Body

variable (c : Dev nD) (i : grid0.Coords)

  (arg1 : Memref sig .tc .vmem S64x4096 .f32) (h1 : arg1.IsWhole)
  (arg2 : Memref sig .tc .vmem S16x4096 .i32) (h2 : arg2.IsWhole)
  (arg3 : Memref sig .tc .vmem S32x128 .f32) (h3 : arg3.IsWhole)
  (arg4 : Memref sig .tc .vmem S32x128 .f32) (h4 : arg4.IsWhole)
  (arg5 : Memref sig .tc .vmem S32x128 .f32) (h5 : arg5.IsWhole)
  (arg6 : Memref sig .tc .vmem S64x4096 .i32) (h6 : arg6.IsWhole)
  (arg7 : Memref sig .tc .vmem S64x4096 .i8) (h7 : arg7.IsWhole)
  (arg8 : Memref sig .tc .vmem S32x128 .f32) (h8 : arg8.IsWhole)
  (arg9 : Memref sig .tc .vmem S32x128 .f32) (h9 : arg9.IsWhole)
  (arg10 : Memref sig .tc .vmem S32x128 .f32) (h10 : arg10.IsWhole)
  (arg11 : Memref sig .tc .vmem S64x1024 .f32) (h11 : arg11.IsWhole)
  (x0 : Vec F S64x4096 .f32) (x1 : Vec F S16x4096 .i32) (x2 x3 x4 : Vec F S32x128 .f32) (x5 : Vec F S64x4096 .i32)

/-- Before trip `k`: the inputs at their contents, the outputs and the scratch at some contents. -/
def inv (k : ℕ) (_u : PUnit) : sProp 𝕄 :=
  iprop((arg1.view.loc (c : Thread nD τ) ↦[arg1.view.set]{fullShare} h1.unread x0)
    ∗ (arg2.view.loc (c : Thread nD τ) ↦[arg2.view.set]{fullShare} h2.unread x1)
    ∗ (arg3.view.loc (c : Thread nD τ) ↦[arg3.view.set]{fullShare} h3.unread x2)
    ∗ (arg4.view.loc (c : Thread nD τ) ↦[arg4.view.set]{fullShare} h4.unread x3)
    ∗ (arg5.view.loc (c : Thread nD τ) ↦[arg5.view.set]{fullShare} h5.unread x4)
    ∗ (arg6.view.loc (c : Thread nD τ) ↦[arg6.view.set]{fullShare} h6.unread x5)
    ∗ (∃ f, (arg7.view.loc (c : Thread nD τ) ↦[arg7.view.set]{fullShare} f))
    ∗ (∃ f, (arg8.view.loc (c : Thread nD τ) ↦[arg8.view.set]{fullShare} f))
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f)))

theorem inv_step (E : Set ℕ) (k : Fin k0_t1_loop.trips) (acc : PUnit) :
    inv c arg1 h1 arg2 h2 arg3 h3 arg4 h4 arg5 h5 arg6 h6 arg7 arg8 arg9 arg10 arg11 x0 x1 x2 x3 x4 x5 k.val acc
      ⊢ wp frame (wpE (defs₀ (F := F)) Variants.none (c : Thread nD τ) none) E (k0_t1_body (F := F) i arg1 h1 arg2 h2 arg3 h3 arg4 h4 arg5 h5 arg6 h6 arg7 h7 arg8 h8 arg9 h9 arg10 h10 arg11 h11 k acc)
          (inv c arg1 h1 arg2 h2 arg3 h3 arg4 h4 arg5 h5 arg6 h6 arg7 arg8 arg9 arg10 arg11 x0 x1 x2 x3 x4 x5 (k.val + 1)) := by
  unfold inv
  iintro ⟨H1, H2, H3, H4, H5, H6, ⟨%f7, H7⟩, ⟨%f8, H8⟩, ⟨%f9, H9⟩, ⟨%f10, H10⟩, ⟨%f11, H11⟩⟩
  iapply (wp_wand_r Idealize.ShloMosaic.frame (wpE (defs₀ (F := F)) Variants.none (c : Thread nD τ) none) E)
  isplitl [H1 H2 H3 H4 H5 H6 H7 H8 H9 H10 H11]
  · iapply ((trip_k0_t1 (F := F) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.2.2.2 E f7 f8 f9 f10 f11)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]
    · iexists _; iexact H7
    isplitl [H8]
    · iexists _; iexact H8
    isplitl [H9]
    · iexists _; iexact H9
    isplitl [H10]
    · iexists _; iexact H10
    iexists _; iexact H11

set_option maxHeartbeats 4000000 in
/-- The body on whole staging memrefs: the inputs as they were, the outputs at some contents. -/
theorem body_run (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) E (cc0_finalize i arg1 h1 arg2 h2 arg3 h3 arg4 h4 arg5 h5 arg6 h6 arg7 h7 arg8 h8 arg9 h9 arg10 h10 arg11 h11) K := by
  simp only [cc0_finalize_eq_skeleton]; unfold cc0_finalize_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%d7, %f7, -, H7⟩, ⟨%d8, %f8, -, H8⟩, ⟨%d9, %f9, -, H9⟩, ⟨%d10, %f10, -, H10⟩, ⟨%d11, %f11, -, H11⟩, Hk⟩
  obtain rfl := h1.eq_unread hg1; obtain rfl := h2.eq_unread hg2; obtain rfl := h3.eq_unread hg3; obtain rfl := h4.eq_unread hg4; obtain rfl := h5.eq_unread hg5; obtain rfl := h6.eq_unread hg6
  sl_for (inv c arg1 h1 arg2 h2 arg3 h3 arg4 h4 arg5 h5 arg6 h6 arg7 arg8 arg9 arg10 arg11 x0 x1 x2 x3 x4 x5) $$ [H1 H2 H3 H4 H5 H6 H7 H8 H9 H10 H11]
  · exact fun k acc => inv_step c i arg1 h1 arg2 h2 arg3 h3 arg4 h4 arg5 h5 arg6 h6 arg7 h7 arg8 h8 arg9 h9 arg10 h10 arg11 h11 x0 x1 x2 x3 x4 x5 E k acc
  · unfold inv
    isplitl [H1]; · iexact H1
    isplitl [H2]; · iexact H2
    isplitl [H3]; · iexact H3
    isplitl [H4]; · iexact H4
    isplitl [H5]; · iexact H5
    isplitl [H6]; · iexact H6
    isplitl [H7]
    · iexists _; iexact H7
    isplitl [H8]
    · iexists _; iexact H8
    isplitl [H9]
    · iexists _; iexact H9
    isplitl [H10]
    · iexists _; iexact H10
    iexists _; iexact H11
  iintro %acc HI
  unfold inv
  icases HI with ⟨H1, H2, H3, H4, H5, H6, ⟨%b7, H7⟩, ⟨%b8, H8⟩, ⟨%b9, H9⟩, ⟨%b10, H10⟩, ⟨%b11, H11⟩⟩
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Body

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block (nothing is said of the outputs'); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The windows of which nothing is said: the four outputs. -/
def outs : Fin cfg0.W → Bool := fun w => match w with
  | ⟨0, _⟩ => false | ⟨1, _⟩ => false | ⟨2, _⟩ => false | ⟨3, _⟩ => false | ⟨4, _⟩ => false | ⟨5, _⟩ => false
  | ⟨6, _⟩ => true | ⟨7, _⟩ => true | ⟨8, _⟩ => true | ⟨9, _⟩ => true

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

/-! ## The run and the frame -/

/-- The results, which the lines after the call write. -/
def results : Finset (Ref sig .tc) := {main_v44, main_v45, main_v46, main_v47}

set_option backward.isDefEq.respectTransparency.types false in
set_option maxHeartbeats 800000 in
/-- The launch: every fair execution ends, with every buffer but the call's outputs and the results as the call found it and
    every semaphore counter at zero. -/
theorem run_main_quiescent : θ_run defs (onTc (τ := τ) (main (F := F))) (s₀ m ρ)
    (fun r => Pipeline.RDat.FramePostR (cfgs 0) (fun c => (dats m 0 c).toRForget outs) results (V m) r ∧ r.2.sem = fun _ => 0) :=
  Pipeline.θ_run_frame_around_T_forget (Q' := _) cfgs (dats m) (0 : Fin 1) launch0 defs₀ Variants.none outs results m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      simp only [hostOps1, List.mem_cons, List.not_mem_nil, _root_.or_false, forall_eq_or_imp, forall_eq, StableHlo.nullary_writes, StableHlo.unary_writes, StableHlo.binary_writes, StableHlo.reshape_writes, Finset.mem_singleton]
      refine ⟨fun b hb => ?_, fun b hb => ?_, fun b hb => ?_, fun b hb => ?_⟩ <;>
        (obtain rfl := Proc.devRef_injective .tc hb; decide))
    (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ ⟨h, _⟩ c => ⟨((h c).2 main_arg0 (by decide)).trans (V_main_arg0 m c),
      ((h c).2 main_arg1 (by decide)).trans (V_main_arg1 m c),
      ((h c).2 main_arg2 (by decide)).trans (V_main_arg2 m c),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c)⟩) (run_main_quiescent m ρ)

/-- The kernel is quiescent: its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Run

end
-- ==== Proof.Column.lean ====
/-
  One column of the optimizer step, as plain arithmetic over the extended reals.

  A column is one unique row of the embedding table: its 64 gradient entries, its 64 code bytes, its scale, its bias, its
  momentum and its 64 random words. The definitions here follow the kernel's own operations, in the kernel's order.
-/
module

public import Idealize.ShloMosaic.Lib.Pointwise
public import Idealize.ShloMosaic.Lib.BitcastPair

@[expose] public section

noncomputable section

namespace Cert.Column
open Idealize.ShloMosaic

/-- Byte `b` of a 32-bit word, byte 0 the lowest. -/
def byteAt (w : BitVec 32) (b : ℕ) : BitVec 8 := w.extractLsb' (b * 8) 8

/-- The new momentum: the old one plus the mean of the squared gradient, the mean taken as a product with 1/64. -/
def stV (st : EReal) (g : Fin 64 → EReal) : EReal := st + (∑ a, g a * g a) * Ideal.ofBits .f32 0x3C800000#32

/-- The step's multiplier, the learning rate over the root of the new momentum plus a small constant. -/
def mulV (s : EReal) : EReal :=
  Ideal.div (Ideal.ofBits .f32 0x3CA3D70A#32) (Ideal.sqrt s + Ideal.ofBits .f32 0x322BCC77#32)

/-- The updated weight of one entry: the code dequantized, less the multiplier times the gradient. -/
def wV (m sc bi : EReal) (c : BitVec 8) (g : EReal) : EReal :=
  (((c.setWidth 32).toInt : ℝ) : EReal) * sc + bi - m * g

/-- The least and the greatest updated weight of the column. -/
def mnV (w : Fin 64 → EReal) : EReal := Finset.univ.fold min (Ideal.ofBits .f32 0x7F800000#32) w
def mxV (w : Fin 64 → EReal) : EReal := Finset.univ.fold max (Ideal.ofBits .f32 0xFF800000#32) w

/-- The new scale: the range over 255. -/
def scV (w : Fin 64 → EReal) : EReal := Ideal.div (mxV w - mnV w) (Ideal.ofBits .f32 0x437F0000#32)

/-- 255 over the range plus a small constant. -/
def invV (w : Fin 64 → EReal) : EReal :=
  Ideal.div (Ideal.ofBits .f32 0x437F0000#32) (mxV w - mnV w + Ideal.ofBits .f32 0x322BCC77#32)

/-- A value before it is rounded: scaled, with the random offset added, rounded down and clipped to [0, 255]. -/
def clipV (v : EReal) (rd : BitVec 32) : EReal :=
  min (Ideal.ofBits .f32 0x437F0000#32) (max 0 (Ideal.liftRound Int.floor
    (v + (((IntOp.shrui ArithUnit.vector rd 8#32).toInt : ℝ) : EReal) * Ideal.ofBits .f32 0x33800000#32)))

/-- The new code of one entry. -/
def qV (w mn inv : EReal) (rd : BitVec 32) : BitVec 8 := (Ideal.fptosi 32 (clipV ((w - mn) * inv) rd)).setWidth 8

end Cert.Column
-- ==== Proof.Block.lean ====
/-
  What one block of the kernel leaves in its four outputs, as the column arithmetic of `Cert.Column`.

  A block holds 4096 columns. The per-column values (scale, bias, momentum) lie in a 32 by 128 layout, the column of row `R`
  and lane `l` being column `128 R + l` of the 64 by 4096 layout of the entries.
-/
module

public import proofs.«01_k».proof.Proof.Column
public import proofs.«01_k».proof.Proof.Gen.KernelIdeal.Skeleton

@[expose] public section

noncomputable section

namespace Cert.KernelIdeal.Block
open Idealize.ShloMosaic Idealize.ShloMosaic.TcCoe Cert.KernelIdeal.Gen Cert.Column

/-- The column of row `R` and lane `l`. -/
def cIx (R : Fin 32) (l : Fin 128) : Fin 4096 := ⟨128 * R.val + l.val, by omega⟩

/-- The row and the lane of a column. -/
def rowOf (j : Fin 4096) : Fin 32 := ⟨j.val / 128, by omega⟩
def laneOf (j : Fin 4096) : Fin 128 := ⟨j.val % 128, by omega⟩

theorem rowOf_cIx (R : Fin 32) (l : Fin 128) : rowOf (cIx R l) = R := Fin.ext (by simp only [rowOf, cIx]; omega)
theorem laneOf_cIx (R : Fin 32) (l : Fin 128) : laneOf (cIx R l) = l := Fin.ext (by simp only [laneOf, cIx]; omega)

variable (x0 : Vec Ideal S64x4096 .f32) (x1 : Vec Ideal S16x4096 .i32) (x2 x3 x4 : Vec Ideal S32x128 .f32)
  (x5 : Vec Ideal S64x4096 .i32)

/-- The gradient of a column. -/
def gB (R : Fin 32) (l : Fin 128) (a : Fin 64) : EReal := x0 (ix2 a (cIx R l))

/-- The new momentum of a column. -/
def stB (R : Fin 32) (l : Fin 128) : EReal := stV (x4 (ix2 R l)) (gB x0 R l)

/-- The updated weights of a column. -/
def wB (R : Fin 32) (l : Fin 128) (a : Fin 64) : EReal :=
  wV (mulV (stB x0 x4 R l)) (x2 (ix2 R l)) (x3 (ix2 R l))
    (byteAt (x1 (ix2 ⟨a.val / 4, by omega⟩ (cIx R l))) (a.val % 4)) (x0 (ix2 a (cIx R l)))

/-- The new code of an entry of a column. -/
def qB (R : Fin 32) (l : Fin 128) (a : Fin 64) : BitVec 8 :=
  qV (wB x0 x1 x2 x3 x4 R l a) (mnV (wB x0 x1 x2 x3 x4 R l)) (invV (wB x0 x1 x2 x3 x4 R l)) (x5 (ix2 a (cIx R l)))

/-- The block's new codes, scales, biases and momenta. -/
def S6 : Vec Ideal S64x4096 .i8 := fun y => qB x0 x1 x2 x3 x4 x5 (rowOf (y 1)) (laneOf (y 1)) (y 0)
def S7 : Vec Ideal S32x128 .f32 := fun y => scV (wB x0 x1 x2 x3 x4 (y 0) (y 1))
def S8 : Vec Ideal S32x128 .f32 := fun y => mnV (wB x0 x1 x2 x3 x4 (y 0) (y 1))
def S9 : Vec Ideal S32x128 .f32 := fun y => stB x0 x4 (y 0) (y 1)

end Cert.KernelIdeal.Block
-- ==== Proof.Payloads.lean ====
/-
  The kernel's stored values read at one entry, each as the column arithmetic of `Cert.Column`.

  The kernel works on eight tiles of 64 by 128 per trip. For every tile the lemmas below read the updated weight, its least
  and greatest value down a column, and the new code.
-/
module

public import proofs.«01_k».proof.Proof.Column
public import proofs.«01_k».proof.Proof.Gen.KernelIdeal.Skeleton

@[expose] public section

set_option maxRecDepth 16384

noncomputable section

namespace Cert.KernelIdeal.Pay
open Idealize.ShloMosaic Idealize.ShloMosaic.TcCoe Cert.KernelIdeal.Gen Cert.Column

/-- Four rows of bytes packed in a row of words, read back as rows of bytes: row `a` is byte `a % 4` of word row `a / 4`. -/
theorem bitcast_byte (v : IVec S16x128 32) (a : Fin 64) (l : Fin 128) :
    bitcast S64x128 8 v bitcasts_S16x128_w32_S64x128_w8 (ix2 a l)
      = byteAt (v (ix2 ⟨a.val / 4, by omega⟩ l)) (a.val % 4) := by
  apply BitVec.eq_of_getLsbD_eq
  intro q hq
  rw [bitcast_getLsbD _ _ _ q hq (by decide), byteAt, BitVec.getLsbD_extractLsb']
  have hr : Shape.row S64x128 (ix2 a l) = a.val := rfl
  have e1 : (a.val * 8 + q) / 32 = a.val / 4 := by omega
  have e2 : (a.val * 8 + q) % 32 = a.val % 4 * 8 + q := by omega
  simp only [hr, e2, hq, decide_true, Bool.true_and]
  congr 2
  funext b
  apply Fin.ext
  match b with
  | ⟨0, _⟩ => rw [Shape.Bitcasts.srcIdx_row _ _ _ _ _ rfl]; exact e1
  | ⟨1, _⟩ => rw [Shape.Bitcasts.srcIdx_other _ _ _ _ _ (show ¬ (1 + 2 = 2) by omega)]; rfl

/-- Tile 1: the updated weight. -/
theorem w1_16 (v90 : FVec Ideal S8x128 .f32) (v93 : FVec Ideal S8x128 .f32) (v96 : FVec Ideal S8x128 .f32) (v130 : Vec Ideal S16x128 .i32) (v143 : Vec Ideal S64x128 .f32) (a : Fin 64) (l : Fin 128) :
    k0_pay16 (F := Ideal) v90 v93 v96 v130 v143 (ix2 a l) = wV (v90 (ix2 1 l)) (v93 (ix2 1 l)) (v96 (ix2 1 l)) (byteAt (v130 (ix2 ⟨a.val / 4, by omega⟩ l)) (a.val % 4)) (v143 (ix2 a l)) := by
  pointwise [k0_pay16, bitcast_byte]
  rfl

/-- Tile 1: the updated weight. -/
theorem w1_17 (v90 : FVec Ideal S8x128 .f32) (v93 : FVec Ideal S8x128 .f32) (v96 : FVec Ideal S8x128 .f32) (v130 : Vec Ideal S16x128 .i32) (v143 : Vec Ideal S64x128 .f32) (a : Fin 64) (l : Fin 128) :
    k0_pay17 (F := Ideal) v90 v93 v96 v130 v143 (ix2 a l) = wV (v90 (ix2 1 l)) (v93 (ix2 1 l)) (v96 (ix2 1 l)) (byteAt (v130 (ix2 ⟨a.val / 4, by omega⟩ l)) (a.val % 4)) (v143 (ix2 a l)) := by
  pointwise [k0_pay17, k0_pay16, bitcast_byte]
  rfl

/-- Tile 3: the updated weight. -/
theorem w3_27 (v90 : FVec Ideal S8x128 .f32) (v93 : FVec Ideal S8x128 .f32) (v96 : FVec Ideal S8x128 .f32) (v188 : Vec Ideal S16x128 .i32) (v201 : Vec Ideal S64x128 .f32) (a : Fin 64) (l : Fin 128) :
    k0_pay27 (F := Ideal) v90 v93 v96 v188 v201 (ix2 a l) = wV (v90 (ix2 3 l)) (v93 (ix2 3 l)) (v96 (ix2 3 l)) (byteAt (v188 (ix2 ⟨a.val / 4, by omega⟩ l)) (a.val % 4)) (v201 (ix2 a l)) := by
  pointwise [k0_pay27, bitcast_byte]
  rfl

/-- Tile 3: the updated weight. -/
theorem w3_28 (v90 : FVec Ideal S8x128 .f32) (v93 : FVec Ideal S8x128 .f32) (v96 : FVec Ideal S8x128 .f32) (v188 : Vec Ideal S16x128 .i32) (v201 : Vec Ideal S64x128 .f32) (a : Fin 64) (l : Fin 128) :
    k0_pay28 (F := Ideal) v90 v93 v96 v188 v201 (ix2 a l) = wV (v90 (ix2 3 l)) (v93 (ix2 3 l)) (v96 (ix2 3 l)) (byteAt (v188 (ix2 ⟨a.val / 4, by omega⟩ l)) (a.val % 4)) (v201 (ix2 a l)) := by
  pointwise [k0_pay28, k0_pay27, bitcast_byte]
  rfl

/-- Tile 4: the updated weight. -/
theorem w4_31 (v90 : FVec Ideal S8x128 .f32) (v93 : FVec Ideal S8x128 .f32) (v96 : FVec Ideal S8x128 .f32) (v217 : Vec Ideal S16x128 .i32) (v230 : Vec Ideal S64x128 .f32) (a : Fin 64) (l : Fin 128) :
    k0_pay31 (F := Ideal) v90 v93 v96 v217 v230 (ix2 a l) = wV (v90 (ix2 4 l)) (v93 (ix2 4 l)) (v96 (ix2 4 l)) (byteAt (v217 (ix2 ⟨a.val / 4, by omega⟩ l)) (a.val % 4)) (v230 (ix2 a l)) := by
  pointwise [k0_pay31, bitcast_byte]
  rfl

/-- Tile 4: the updated weight. -/
theorem w4_32 (v90 : FVec Ideal S8x128 .f32) (v93 : FVec Ideal S8x128 .f32) (v96 : FVec Ideal S8x128 .f32) (v217 : Vec Ideal S16x128 .i32) (v230 : Vec Ideal S64x128 .f32) (a : Fin 64) (l : Fin 128) :
    k0_pay32 (F := Ideal) v90 v93 v96 v217 v230 (ix2 a l) = wV (v90 (ix2 4 l)) (v93 (ix2 4 l)) (v96 (ix2 4 l)) (byteAt (v217 (ix2 ⟨a.val / 4, by omega⟩ l)) (a.val % 4)) (v230 (ix2 a l)) := by
  pointwise [k0_pay32, k0_pay31, bitcast_byte]
  rfl

/-- Tile 6: the updated weight. -/
theorem w6_39 (v90 : FVec Ideal S8x128 .f32) (v93 : FVec Ideal S8x128 .f32) (v96 : FVec Ideal S8x128 .f32) (v275 : Vec Ideal S16x128 .i32) (v288 : Vec Ideal S64x128 .f32) (a : Fin 64) (l : Fin 128) :
    k0_pay39 (F := Ideal) v90 v93 v96 v275 v288 (ix2 a l) = wV (v90 (ix2 6 l)) (v93 (ix2 6 l)) (v96 (ix2 6 l)) (byteAt (v275 (ix2 ⟨a.val / 4, by omega⟩ l)) (a.val % 4)) (v288 (ix2 a l)) := by
  pointwise [k0_pay39, bitcast_byte]
  rfl

/-- Tile 6: the updated weight. -/
theorem w6_40 (v90 : FVec Ideal S8x128 .f32) (v93 : FVec Ideal S8x128 .f32) (v96 : FVec Ideal S8x128 .f32) (v275 : Vec Ideal S16x128 .i32) (v288 : Vec Ideal S64x128 .f32) (a : Fin 64) (l : Fin 128) :
    k0_pay40 (F := Ideal) v90 v93 v96 v275 v288 (ix2 a l) = wV (v90 (ix2 6 l)) (v93 (ix2 6 l)) (v96 (ix2 6 l)) (byteAt (v275 (ix2 ⟨a.val / 4, by omega⟩ l)) (a.val % 4)) (v288 (ix2 a l)) := by
  pointwise [k0_pay40, k0_pay39, bitcast_byte]
  rfl

/-- Tile 0: the updated weight. -/
theorem w0_12 (v80 : FVec Ideal S8x128 .f32) (v82 : FVec Ideal S8x128 .f32) (v92 : Vec Ideal S8x128 .f32) (v95 : Vec Ideal S8x128 .f32) (v101 : Vec Ideal S16x128 .i32) (v114 : Vec Ideal S64x128 .f32) (a : Fin 64) (l : Fin 128) :
    k0_pay12 (F := Ideal) v80 v82 v92 v95 v101 v114 (ix2 a l) = wV (k0_pay9 (F := Ideal) v80 v82 (ix2 0 l)) (v92 (ix2 0 l)) (v95 (ix2 0 l)) (byteAt (v101 (ix2 ⟨a.val / 4, by omega⟩ l)) (a.val % 4)) (v114 (ix2 a l)) := by
  pointwise [k0_pay12, k0_pay11, k0_pay10, bitcast_byte]
  rfl

/-- Tile 0: the updated weight. -/
theorem w0_13 (v80 : FVec Ideal S8x128 .f32) (v82 : FVec Ideal S8x128 .f32) (v92 : Vec Ideal S8x128 .f32) (v95 : Vec Ideal S8x128 .f32) (v101 : Vec Ideal S16x128 .i32) (v114 : Vec Ideal S64x128 .f32) (a : Fin 64) (l : Fin 128) :
    k0_pay13 (F := Ideal) v80 v82 v92 v95 v101 v114 (ix2 a l) = wV (k0_pay9 (F := Ideal) v80 v82 (ix2 0 l)) (v92 (ix2 0 l)) (v95 (ix2 0 l)) (byteAt (v101 (ix2 ⟨a.val / 4, by omega⟩ l)) (a.val % 4)) (v114 (ix2 a l)) := by
  pointwise [k0_pay13, k0_pay12, k0_pay11, k0_pay10, bitcast_byte]
  rfl

/-- Tile 5: the updated weight. -/
theorem w5_35 (v90 : FVec Ideal S8x128 .f32) (v93 : FVec Ideal S8x128 .f32) (v96 : FVec Ideal S8x128 .f32) (v246 : Vec Ideal S16x128 .i32) (v259 : Vec Ideal S64x128 .f32) (a : Fin 64) (l : Fin 128) :
    k0_pay35 (F := Ideal) v90 v93 v96 v246 v259 (ix2 a l) = wV (v90 (ix2 5 l)) (v93 (ix2 5 l)) (v96 (ix2 5 l)) (byteAt (v246 (ix2 ⟨a.val / 4, by omega⟩ l)) (a.val % 4)) (v259 (ix2 a l)) := by
  pointwise [k0_pay35, bitcast_byte]
  rfl

/-- Tile 5: the stored weight. -/
theorem w5_36 (v263 : FVec Ideal S64x128 .f32) (a : Fin 64) (l : Fin 128) :
    k0_pay36 (F := Ideal) v263 (ix2 a l) = v263 (ix2 a l) := by
  pointwise [k0_pay36]

/-- Tile 2: the updated weight, over the values the kernel carries from one part to the next. -/
theorem w2_23 (v90 v93 v96 : FVec Ideal S8x128 .f32) (v159 : Vec Ideal S16x128 .i32) (v172 : Vec Ideal S64x128 .f32) (a : Fin 64) (l : Fin 128) :
    k0_pay23 (F := Ideal) (k0_pay20 v93 v96 v159) (k0_pay21 v172) (k0_pay22 v90) (ix2 a l) = wV (v90 (ix2 2 l)) (v93 (ix2 2 l)) (v96 (ix2 2 l)) (byteAt (v159 (ix2 ⟨a.val / 4, by omega⟩ l)) (a.val % 4)) (v172 (ix2 a l)) := by
  pointwise [k0_pay23, k0_pay22, k0_pay21, k0_pay20, bitcast_byte]
  rfl

/-- Tile 2: the stored weight. -/
theorem w2_24 (v169 : FVec Ideal S64x128 .f32) (v173 : FVec Ideal S64x128 .f32) (v174 : FVec Ideal S64x128 .f32) (a : Fin 64) (l : Fin 128) :
    k0_pay24 (F := Ideal) v169 v173 v174 (ix2 a l) = k0_pay23 (F := Ideal) v169 v173 v174 (ix2 a l) := by
  pointwise [k0_pay24]

/-- Tile 7: the updated weight, over the values the kernel carries from one part to the next. -/
theorem w7_45 (v90 v93 v96 : FVec Ideal S8x128 .f32) (v304 : Vec Ideal S16x128 .i32) (v317 : Vec Ideal S64x128 .f32) (a : Fin 64) (l : Fin 128) :
    k0_pay45 (F := Ideal) v90 v96 (k0_pay43 v304) (k0_pay44 v93) v317 (ix2 a l) = wV (v90 (ix2 7 l)) (v93 (ix2 7 l)) (v96 (ix2 7 l)) (byteAt (v304 (ix2 ⟨a.val / 4, by omega⟩ l)) (a.val % 4)) (v317 (ix2 a l)) := by
  pointwise [k0_pay45, k0_pay44, k0_pay43, bitcast_byte]
  rfl

/-- Tile 7: the stored weight. -/
theorem w7_46 (v90 : FVec Ideal S8x128 .f32) (v96 : FVec Ideal S8x128 .f32) (v308 : FVec Ideal S64x128 .f32) (v310 : FVec Ideal S64x128 .f32) (v317 : Vec Ideal S64x128 .f32) (a : Fin 64) (l : Fin 128) :
    k0_pay46 (F := Ideal) v90 v96 v308 v310 v317 (ix2 a l) = k0_pay45 (F := Ideal) v90 v96 v308 v310 v317 (ix2 a l) := by
  pointwise [k0_pay46]

/-- Tile 0: the least updated weight of a column. -/
theorem mn0 (v80 : FVec Ideal S8x128 .f32) (v82 : FVec Ideal S8x128 .f32) (v92 : Vec Ideal S8x128 .f32) (v95 : Vec Ideal S8x128 .f32) (v101 : Vec Ideal S16x128 .i32) (v114 : Vec Ideal S64x128 .f32) (l : Fin 128) :
    k0_pay14 (F := Ideal) v80 v82 v92 v95 v101 v114 (ix2 0 l) = mnV fun a => k0_pay12 (F := Ideal) v80 v82 v92 v95 v101 v114 (ix2 a l) := by
  pointwise [k0_pay14]
  rfl

/-- Tile 0: the greatest updated weight of a column. -/
theorem mx0 (v80 : FVec Ideal S8x128 .f32) (v82 : FVec Ideal S8x128 .f32) (v92 : Vec Ideal S8x128 .f32) (v95 : Vec Ideal S8x128 .f32) (v101 : Vec Ideal S16x128 .i32) (v114 : Vec Ideal S64x128 .f32) (l : Fin 128) :
    k0_pay15 (F := Ideal) v80 v82 v92 v95 v101 v114 (ix2 0 l) = mxV fun a => k0_pay12 (F := Ideal) v80 v82 v92 v95 v101 v114 (ix2 a l) := by
  pointwise [k0_pay15]
  rfl

/-- Tile 1: the least updated weight of a column. -/
theorem mn1 (v90 : FVec Ideal S8x128 .f32) (v93 : FVec Ideal S8x128 .f32) (v96 : FVec Ideal S8x128 .f32) (v130 : Vec Ideal S16x128 .i32) (v143 : Vec Ideal S64x128 .f32) (l : Fin 128) :
    k0_pay18 (F := Ideal) v90 v93 v96 v130 v143 (ix2 0 l) = mnV fun a => k0_pay16 (F := Ideal) v90 v93 v96 v130 v143 (ix2 a l) := by
  pointwise [k0_pay18]
  rfl

/-- Tile 1: the greatest updated weight of a column. -/
theorem mx1 (v90 : FVec Ideal S8x128 .f32) (v93 : FVec Ideal S8x128 .f32) (v96 : FVec Ideal S8x128 .f32) (v130 : Vec Ideal S16x128 .i32) (v143 : Vec Ideal S64x128 .f32) (l : Fin 128) :
    k0_pay19 (F := Ideal) v90 v93 v96 v130 v143 (ix2 0 l) = mxV fun a => k0_pay16 (F := Ideal) v90 v93 v96 v130 v143 (ix2 a l) := by
  pointwise [k0_pay19]
  rfl

/-- Tile 2: the least updated weight of a column. -/
theorem mn2 (v169 : FVec Ideal S64x128 .f32) (v173 : FVec Ideal S64x128 .f32) (v174 : FVec Ideal S64x128 .f32) (l : Fin 128) :
    k0_pay25 (F := Ideal) v169 v173 v174 (ix2 0 l) = mnV fun a => k0_pay23 (F := Ideal) v169 v173 v174 (ix2 a l) := by
  pointwise [k0_pay25]
  rfl

/-- Tile 2: the greatest updated weight of a column. -/
theorem mx2 (v169 : FVec Ideal S64x128 .f32) (v173 : FVec Ideal S64x128 .f32) (v174 : FVec Ideal S64x128 .f32) (l : Fin 128) :
    k0_pay26 (F := Ideal) v169 v173 v174 (ix2 0 l) = mxV fun a => k0_pay23 (F := Ideal) v169 v173 v174 (ix2 a l) := by
  pointwise [k0_pay26]
  rfl

/-- Tile 3: the least updated weight of a column. -/
theorem mn3 (v90 : FVec Ideal S8x128 .f32) (v93 : FVec Ideal S8x128 .f32) (v96 : FVec Ideal S8x128 .f32) (v188 : Vec Ideal S16x128 .i32) (v201 : Vec Ideal S64x128 .f32) (l : Fin 128) :
    k0_pay29 (F := Ideal) v90 v93 v96 v188 v201 (ix2 0 l) = mnV fun a => k0_pay27 (F := Ideal) v90 v93 v96 v188 v201 (ix2 a l) := by
  pointwise [k0_pay29]
  rfl

/-- Tile 3: the greatest updated weight of a column. -/
theorem mx3 (v90 : FVec Ideal S8x128 .f32) (v93 : FVec Ideal S8x128 .f32) (v96 : FVec Ideal S8x128 .f32) (v188 : Vec Ideal S16x128 .i32) (v201 : Vec Ideal S64x128 .f32) (l : Fin 128) :
    k0_pay30 (F := Ideal) v90 v93 v96 v188 v201 (ix2 0 l) = mxV fun a => k0_pay27 (F := Ideal) v90 v93 v96 v188 v201 (ix2 a l) := by
  pointwise [k0_pay30]
  rfl

/-- Tile 4: the least updated weight of a column. -/
theorem mn4 (v90 : FVec Ideal S8x128 .f32) (v93 : FVec Ideal S8x128 .f32) (v96 : FVec Ideal S8x128 .f32) (v217 : Vec Ideal S16x128 .i32) (v230 : Vec Ideal S64x128 .f32) (l : Fin 128) :
    k0_pay33 (F := Ideal) v90 v93 v96 v217 v230 (ix2 0 l) = mnV fun a => k0_pay31 (F := Ideal) v90 v93 v96 v217 v230 (ix2 a l) := by
  pointwise [k0_pay33]
  rfl

/-- Tile 4: the greatest updated weight of a column. -/
theorem mx4 (v90 : FVec Ideal S8x128 .f32) (v93 : FVec Ideal S8x128 .f32) (v96 : FVec Ideal S8x128 .f32) (v217 : Vec Ideal S16x128 .i32) (v230 : Vec Ideal S64x128 .f32) (l : Fin 128) :
    k0_pay34 (F := Ideal) v90 v93 v96 v217 v230 (ix2 0 l) = mxV fun a => k0_pay31 (F := Ideal) v90 v93 v96 v217 v230 (ix2 a l) := by
  pointwise [k0_pay34]
  rfl

/-- Tile 6: the least updated weight of a column. -/
theorem mn6 (v90 : FVec Ideal S8x128 .f32) (v93 : FVec Ideal S8x128 .f32) (v96 : FVec Ideal S8x128 .f32) (v275 : Vec Ideal S16x128 .i32) (v288 : Vec Ideal S64x128 .f32) (l : Fin 128) :
    k0_pay41 (F := Ideal) v90 v93 v96 v275 v288 (ix2 0 l) = mnV fun a => k0_pay39 (F := Ideal) v90 v93 v96 v275 v288 (ix2 a l) := by
  pointwise [k0_pay41]
  rfl

/-- Tile 6: the greatest updated weight of a column. -/
theorem mx6 (v90 : FVec Ideal S8x128 .f32) (v93 : FVec Ideal S8x128 .f32) (v96 : FVec Ideal S8x128 .f32) (v275 : Vec Ideal S16x128 .i32) (v288 : Vec Ideal S64x128 .f32) (l : Fin 128) :
    k0_pay42 (F := Ideal) v90 v93 v96 v275 v288 (ix2 0 l) = mxV fun a => k0_pay39 (F := Ideal) v90 v93 v96 v275 v288 (ix2 a l) := by
  pointwise [k0_pay42]
  rfl

/-- Tile 5: the least updated weight of a column. -/
theorem mn5 (v263 : FVec Ideal S64x128 .f32) (l : Fin 128) :
    k0_pay37 (F := Ideal) v263 (ix2 0 l) = mnV fun a => v263 (ix2 a l) := by
  pointwise [k0_pay37]
  rfl

/-- Tile 5: the greatest updated weight of a column. -/
theorem mx5 (v263 : FVec Ideal S64x128 .f32) (l : Fin 128) :
    k0_pay38 (F := Ideal) v263 (ix2 0 l) = mxV fun a => v263 (ix2 a l) := by
  pointwise [k0_pay38]
  rfl

/-- Row 0 of the new biases. -/
theorem bias0 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 0 l) = v123 (ix2 0 l) := by
  pointwise [k0_pay47]

/-- Row 0 of the ranges. -/
theorem rng0 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 0 l) = v125 (ix2 0 l) - k0_pay47 (F := Ideal) v90 v96 v123 v152 v181 v210 v239 v268 v297 v308 v310 v317 (ix2 0 l) := by
  pointwise [k0_pay48]

/-- Row 1 of the new biases. -/
theorem bias1 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 1 l) = v152 (ix2 0 l) := by
  pointwise [k0_pay47]

/-- Row 1 of the ranges. -/
theorem rng1 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 1 l) = v154 (ix2 0 l) - k0_pay47 (F := Ideal) v90 v96 v123 v152 v181 v210 v239 v268 v297 v308 v310 v317 (ix2 1 l) := by
  pointwise [k0_pay48]

/-- Row 2 of the new biases. -/
theorem bias2 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 2 l) = v181 (ix2 0 l) := by
  pointwise [k0_pay47]

/-- Row 2 of the ranges. -/
theorem rng2 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 2 l) = v183 (ix2 0 l) - k0_pay47 (F := Ideal) v90 v96 v123 v152 v181 v210 v239 v268 v297 v308 v310 v317 (ix2 2 l) := by
  pointwise [k0_pay48]

/-- Row 3 of the new biases. -/
theorem bias3 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 3 l) = v210 (ix2 0 l) := by
  pointwise [k0_pay47]

/-- Row 3 of the ranges. -/
theorem rng3 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 3 l) = v212 (ix2 0 l) - k0_pay47 (F := Ideal) v90 v96 v123 v152 v181 v210 v239 v268 v297 v308 v310 v317 (ix2 3 l) := by
  pointwise [k0_pay48]

/-- Row 4 of the new biases. -/
theorem bias4 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 4 l) = v239 (ix2 0 l) := by
  pointwise [k0_pay47]

/-- Row 4 of the ranges. -/
theorem rng4 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 4 l) = v241 (ix2 0 l) - k0_pay47 (F := Ideal) v90 v96 v123 v152 v181 v210 v239 v268 v297 v308 v310 v317 (ix2 4 l) := by
  pointwise [k0_pay48]

/-- Row 5 of the new biases. -/
theorem bias5 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 5 l) = v268 (ix2 0 l) := by
  pointwise [k0_pay47]

/-- Row 5 of the ranges. -/
theorem rng5 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 5 l) = v270 (ix2 0 l) - k0_pay47 (F := Ideal) v90 v96 v123 v152 v181 v210 v239 v268 v297 v308 v310 v317 (ix2 5 l) := by
  pointwise [k0_pay48]

/-- Row 6 of the new biases. -/
theorem bias6 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 6 l) = v297 (ix2 0 l) := by
  pointwise [k0_pay47]

/-- Row 6 of the ranges. -/
theorem rng6 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 6 l) = v299 (ix2 0 l) - k0_pay47 (F := Ideal) v90 v96 v123 v152 v181 v210 v239 v268 v297 v308 v310 v317 (ix2 6 l) := by
  pointwise [k0_pay48]

/-- Row 7 of the new biases. -/
theorem bias7 (v90 : FVec Ideal S8x128 .f32) (v96 : FVec Ideal S8x128 .f32) (v123 : FVec Ideal S1x128 .f32) (v152 : FVec Ideal S1x128 .f32) (v181 : FVec Ideal S1x128 .f32) (v210 : FVec Ideal S1x128 .f32) (v239 : FVec Ideal S1x128 .f32) (v268 : FVec Ideal S1x128 .f32) (v297 : FVec Ideal S1x128 .f32) (v308 : FVec Ideal S64x128 .f32) (v310 : FVec Ideal S64x128 .f32) (v317 : Vec Ideal S64x128 .f32) (l : Fin 128) :
    k0_pay47 (F := Ideal) v90 v96 v123 v152 v181 v210 v239 v268 v297 v308 v310 v317 (ix2 7 l) = mnV fun a => k0_pay45 (F := Ideal) v90 v96 v308 v310 v317 (ix2 a l) := by
  pointwise [k0_pay47]
  rfl

/-- Row 7 of the ranges. -/
theorem rng7 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (l : Fin 128) :
    k0_pay48 (F := Ideal) v90 v96 v123 v125 v152 v154 v181 v183 v210 v212 v239 v241 v268 v270 v297 v299 v308 v310 v317 (ix2 7 l) = (mxV fun a => k0_pay45 (F := Ideal) v90 v96 v308 v310 v317 (ix2 a l)) - k0_pay47 (F := Ideal) v90 v96 v123 v152 v181 v210 v239 v268 v297 v308 v310 v317 (ix2 7 l) := by
  pointwise [k0_pay48]
  rfl

/-- The new scales. -/
theorem scale (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (r : Fin 8) (l : Fin 128) :
    k0_pay49 (F := Ideal) v90 v96 v123 v125 v152 v154 v181 v183 v210 v212 v239 v241 v268 v270 v297 v299 v308 v310 v317 (ix2 r l) = Ideal.div (k0_pay48 (F := Ideal) v90 v96 v123 v125 v152 v154 v181 v183 v210 v212 v239 v241 v268 v270 v297 v299 v308 v310 v317 (ix2 r l)) (Ideal.ofBits .f32 0x437F0000#32) := by
  pointwise [k0_pay49]

/-- The reciprocals of the ranges. -/
theorem inv (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (r : Fin 8) (l : Fin 128) :
    k0_pay50 (F := Ideal) v90 v96 v123 v125 v152 v154 v181 v183 v210 v212 v239 v241 v268 v270 v297 v299 v308 v310 v317 (ix2 r l) = Ideal.div (Ideal.ofBits .f32 0x437F0000#32) (k0_pay48 (F := Ideal) v90 v96 v123 v125 v152 v154 v181 v183 v210 v212 v239 v241 v268 v270 v297 v299 v308 v310 v317 (ix2 r l) + Ideal.ofBits .f32 0x322BCC77#32) := by
  pointwise [k0_pay50]

/-- The new momentum. -/
theorem state (v80 : FVec Ideal S8x128 .f32) (v82 : FVec Ideal S8x128 .f32) (r : Fin 8) (l : Fin 128) :
    k0_pay8 (F := Ideal) v80 v82 (ix2 r l) = v80 (ix2 r l) + v82 (ix2 r l) := by
  pointwise [k0_pay8]

/-- The multiplier. -/
theorem mul (v80 : FVec Ideal S8x128 .f32) (v82 : FVec Ideal S8x128 .f32) (r : Fin 8) (l : Fin 128) :
    k0_pay9 (F := Ideal) v80 v82 (ix2 r l) = mulV (k0_pay8 (F := Ideal) v80 v82 (ix2 r l)) := by
  pointwise [k0_pay9, k0_pay8]
  rfl

theorem id6 (v79 : Vec Ideal S8x128 .f32) (r : Fin 8) (l : Fin 128) :
    k0_pay6 (F := Ideal) v79 (ix2 r l) = v79 (ix2 r l) := by
  pointwise [k0_pay6]

theorem id10 (v92 : Vec Ideal S8x128 .f32) (r : Fin 8) (l : Fin 128) :
    k0_pay10 (F := Ideal) v92 (ix2 r l) = v92 (ix2 r l) := by
  pointwise [k0_pay10]

theorem id11 (v95 : Vec Ideal S8x128 .f32) (r : Fin 8) (l : Fin 128) :
    k0_pay11 (F := Ideal) v95 (ix2 r l) = v95 (ix2 r l) := by
  pointwise [k0_pay11]

/-- The mean of the squared gradient, row by row of the eight tiles. -/
theorem meansq (g0 g1 g2 g3 g4 g5 g6 g7 : Vec Ideal S64x128 .f32) (l : Fin 128) :
    let s := k0_pay7 (F := Ideal) (k0_pay2 g0) (k0_pay3 g1) (k0_pay4 g2) (k0_pay5 g3) g4 g5 g6 g7
    let f := fun g : Vec Ideal S64x128 .f32 => (∑ a, g (ix2 a l) * g (ix2 a l)) * Ideal.ofBits .f32 0x3C800000#32
    s (ix2 0 l) = f g0 ∧ s (ix2 1 l) = f g1 ∧ s (ix2 2 l) = f g2 ∧ s (ix2 3 l) = f g3 ∧ s (ix2 4 l) = f g4
      ∧ s (ix2 5 l) = f g5 ∧ s (ix2 6 l) = f g6 ∧ s (ix2 7 l) = f g7 := by
  dsimp only
  refine ⟨?_, ?_, ?_, ?_, ?_, ?_, ?_, ?_⟩
  all_goals pointwise [k0_pay7, k0_pay2, k0_pay3, k0_pay4, k0_pay5]

/-- Tile 1: the new code. -/
theorem q1 (v329 : FVec Ideal S8x128 .f32) (v341 : FVec Ideal S8x128 .f32) (v373 : Vec Ideal S64x128 .f32) (v381 : Vec Ideal S64x128 .i32) (a : Fin 64) (l : Fin 128) :
    k0_pay53 (F := Ideal) v329 v341 v373 v381 (ix2 a l) = qV (v373 (ix2 a l)) (v329 (ix2 1 l)) (v341 (ix2 1 l)) (v381 (ix2 a l)) := by
  pointwise [k0_pay53]
  rfl

/-- Tile 2: the new code. -/
theorem q2 (v329 : FVec Ideal S8x128 .f32) (v341 : FVec Ideal S8x128 .f32) (v401 : Vec Ideal S64x128 .f32) (v409 : Vec Ideal S64x128 .i32) (a : Fin 64) (l : Fin 128) :
    k0_pay54 (F := Ideal) v329 v341 v401 v409 (ix2 a l) = qV (v401 (ix2 a l)) (v329 (ix2 2 l)) (v341 (ix2 2 l)) (v409 (ix2 a l)) := by
  pointwise [k0_pay54]
  rfl

/-- Tile 4: the new code. -/
theorem q4 (v329 : FVec Ideal S8x128 .f32) (v341 : FVec Ideal S8x128 .f32) (v457 : Vec Ideal S64x128 .f32) (v465 : Vec Ideal S64x128 .i32) (a : Fin 64) (l : Fin 128) :
    k0_pay58 (F := Ideal) v329 v341 v457 v465 (ix2 a l) = qV (v457 (ix2 a l)) (v329 (ix2 4 l)) (v341 (ix2 4 l)) (v465 (ix2 a l)) := by
  pointwise [k0_pay58]
  rfl

/-- Tile 5: the new code. -/
theorem q5 (v329 : FVec Ideal S8x128 .f32) (v341 : FVec Ideal S8x128 .f32) (v485 : Vec Ideal S64x128 .f32) (v493 : Vec Ideal S64x128 .i32) (a : Fin 64) (l : Fin 128) :
    k0_pay59 (F := Ideal) v329 v341 v485 v493 (ix2 a l) = qV (v485 (ix2 a l)) (v329 (ix2 5 l)) (v341 (ix2 5 l)) (v493 (ix2 a l)) := by
  pointwise [k0_pay59]
  rfl

/-- Tile 0: the new code, over the kernel's carried biases and ranges. -/
theorem q0 (v90 : FVec Ideal S8x128 .f32) (v96 : FVec Ideal S8x128 .f32) (v123 : FVec Ideal S1x128 .f32) (v125 : FVec Ideal S1x128 .f32) (v152 : FVec Ideal S1x128 .f32) (v154 : FVec Ideal S1x128 .f32) (v181 : FVec Ideal S1x128 .f32) (v183 : FVec Ideal S1x128 .f32) (v210 : FVec Ideal S1x128 .f32) (v212 : FVec Ideal S1x128 .f32) (v239 : FVec Ideal S1x128 .f32) (v241 : FVec Ideal S1x128 .f32) (v268 : FVec Ideal S1x128 .f32) (v270 : FVec Ideal S1x128 .f32) (v297 : FVec Ideal S1x128 .f32) (v299 : FVec Ideal S1x128 .f32) (v308 : FVec Ideal S64x128 .f32) (v310 : FVec Ideal S64x128 .f32) (v317 : Vec Ideal S64x128 .f32) (v345 : Vec Ideal S64x128 .f32) (v353 : Vec Ideal S64x128 .i32) (a : Fin 64) (l : Fin 128) :
    k0_pay52 (F := Ideal) (k0_pay51 (F := Ideal) v90 v96 v123 v125 v152 v154 v181 v183 v210 v212 v239 v241 v268 v270 v297 v299 v308 v310 v317 v345 ) v353 (ix2 a l) = qV (v345 (ix2 a l)) (k0_pay47 (F := Ideal) v90 v96 v123 v152 v181 v210 v239 v268 v297 v308 v310 v317 (ix2 0 l)) (k0_pay50 (F := Ideal) v90 v96 v123 v125 v152 v154 v181 v183 v210 v212 v239 v241 v268 v270 v297 v299 v308 v310 v317 (ix2 0 l)) (v353 (ix2 a l)) := by
  pointwise [k0_pay52, k0_pay51]
  rfl

/-- Tile 3: the new code. -/
theorem q3 (v329 v341 : FVec Ideal S8x128 .f32) (v429 : Vec Ideal S64x128 .f32) (v437 : Vec Ideal S64x128 .i32) (a : Fin 64) (l : Fin 128) :
    k0_pay57 (F := Ideal) (k0_pay55 v329 v341 v429) (k0_pay56 (F := Ideal) v437) 8#32 (ix2 a l) = qV (v429 (ix2 a l)) (v329 (ix2 3 l)) (v341 (ix2 3 l)) (v437 (ix2 a l)) := by
  pointwise [k0_pay57, k0_pay55, k0_pay56]
  rfl

/-- Tile 6: the new code. -/
theorem q6 (v329 v341 : FVec Ideal S8x128 .f32) (v513 : Vec Ideal S64x128 .f32) (v521 : Vec Ideal S64x128 .i32) (a : Fin 64) (l : Fin 128) :
    k0_pay62 (F := Ideal) (k0_pay60 v329 v341 v513) (k0_pay61 v521) (ix2 a l) = qV (v513 (ix2 a l)) (v329 (ix2 6 l)) (v341 (ix2 6 l)) (v521 (ix2 a l)) := by
  pointwise [k0_pay62, k0_pay60, k0_pay61]
  rfl

/-- Tile 7: the new code. -/
theorem q7 (v329 v341 : FVec Ideal S8x128 .f32) (v541 : Vec Ideal S64x128 .f32) (v549 : Vec Ideal S64x128 .i32) (a : Fin 64) (l : Fin 128) :
    k0_pay1 (F := Ideal) (Ideal.ofBits .f32 0x437F0000#32) (k0_pay63 v329 v341 v541 v549) (ix2 a l) = qV (v541 (ix2 a l)) (v329 (ix2 7 l)) (v341 (ix2 7 l)) (v549 (ix2 a l)) := by
  pointwise [k0_pay1, k0_pay63]
  rfl

end Cert.KernelIdeal.Pay
-- ==== Proof.Trip.lean ====
/-
  One trip of the kernel's counted loop, read against the block's specification.

  Trip `k` works on rows `8 k .. 8 k + 7` of the per-column values: eight tiles of 128 columns. The lemmas read what the trip
  loads, then the values it carries from tile to tile, then the pieces it stores.
-/
module

public import proofs.«01_k».proof.Proof.Block
public import proofs.«01_k».proof.Proof.Payloads
public import proofs.«01_k».proof.Proof.Gen.KernelIdeal.Loops
public import Idealize.ShloMosaic.Lib.WholeRead
public import Idealize.ShloMosaic.Lib.Pipeline.ValueKit.Tiles
public import Idealize.ShloMosaic.Lib.Pipeline.FrameBody
public import Idealize.ShloMosaic.Lib.Pipeline.Value

@[expose] public section

set_option maxRecDepth 16384

noncomputable section

namespace Cert.KernelIdeal.Trip
open Idealize.ShloMosaic Idealize.ShloMosaic.TcCoe Cert.KernelIdeal.Gen Cert.Column Cert.KernelIdeal.Block
open Cert.KernelIdeal.Gen.trip_k0_t1

theorem trips_lt (k : Fin k0_t1_loop.trips) : k.val < 4 := Nat.lt_of_lt_of_le k.isLt k0_t1_abs.2.1

/-- Row `r` of trip `k`. -/
def kR (k : Fin k0_t1_loop.trips) (r : Fin 8) : Fin 32 := ⟨8 * k.val + r.val, by have := trips_lt k; omega⟩

/-- A load of tile `t` of a 64-row layout. -/
theorem ld1 {e : EltTy} {m : Memref sig .tc .vmem S64x4096 e} (h : m.IsWhole) (x : Vec Ideal S64x4096 e)
    (k : Fin k0_t1_loop.trips) (t : Fin 8) (n : BitVec 32) (hn : n = BitVec.ofNat 32 t.val)
    (inb : ∀ a, k0_off1 k n a + S64x128.size a ≤ S64x4096.size a) (a : Fin 64) (l : Fin 128) :
    (View.readAt (Elt Ideal) m.view (Rect.unit (s := S64x4096) (k0_off1 k n) S64x128.size inb).toLoadRect (h.unread x) : Vec Ideal S64x128 e) (ix2 a l)
      = x (ix2 a (cIx (kR k t) l)) := by
  subst hn
  refine (h.readAt_unread x _ _).trans (congrArg x (funext fun b => Fin.ext ?_))
  refine (Rect.idx_unit_val _ _ _ _ b).trans ?_
  refine (congrArg (· + _) (congrFun (k0_off1_eq k t) b)).trans ?_
  match b with
  | ⟨0, _⟩ => show 0 + a.val = a.val; omega
  | ⟨1, _⟩ => show 1024 * k.val + 128 * t.val + l.val = 128 * (8 * k.val + t.val) + l.val; omega

/-- A load of tile `t` of the packed codes. -/
theorem ld2 {e : EltTy} {m : Memref sig .tc .vmem S16x4096 e} (h : m.IsWhole) (x : Vec Ideal S16x4096 e)
    (k : Fin k0_t1_loop.trips) (t : Fin 8) (n : BitVec 32) (hn : n = BitVec.ofNat 32 t.val)
    (inb : ∀ a, k0_off3 k n a + S16x128.size a ≤ S16x4096.size a) (a : Fin 16) (l : Fin 128) :
    (View.readAt (Elt Ideal) m.view (Rect.unit (s := S16x4096) (k0_off3 k n) S16x128.size inb).toLoadRect (h.unread x) : Vec Ideal S16x128 e) (ix2 a l)
      = x (ix2 a (cIx (kR k t) l)) := by
  subst hn
  refine (h.readAt_unread x _ _).trans (congrArg x (funext fun b => Fin.ext ?_))
  refine (Rect.idx_unit_val _ _ _ _ b).trans ?_
  refine (congrArg (· + _) (congrFun (k0_off3_eq k t) b)).trans ?_
  match b with
  | ⟨0, _⟩ => show 0 + a.val = a.val; omega
  | ⟨1, _⟩ => show 1024 * k.val + 128 * t.val + l.val = 128 * (8 * k.val + t.val) + l.val; omega

/-- A load of the trip's rows of a per-column layout. -/
theorem ldS {e : EltTy} {m : Memref sig .tc .vmem S32x128 e} (h : m.IsWhole) (x : Vec Ideal S32x128 e)
    (k : Fin k0_t1_loop.trips) (inb : ∀ a, k0_off2 k a + S8x128.size a ≤ S32x128.size a) (r : Fin 8) (l : Fin 128) :
    (View.readAt (Elt Ideal) m.view (Rect.unit (s := S32x128) (k0_off2 k) S8x128.size inb).toLoadRect (h.unread x) : Vec Ideal S8x128 e) (ix2 r l)
      = x (ix2 (kR k r) l) := by
  refine (h.readAt_unread x _ _).trans (congrArg x (funext fun b => Fin.ext ?_))
  refine (Rect.idx_unit_val _ _ _ _ b).trans ?_
  refine (congrArg (· + _) (congrFun (k0_off2_eq k) b)).trans ?_
  match b with
  | ⟨0, _⟩ => rfl
  | ⟨1, _⟩ => show 0 + l.val = l.val; omega

/-- A tile of the scratch read past a later tile's store. -/
theorem skip (v : View sig .tc .vmem S64x1024 .f32) {o o' : ℕ} (inb : ∀ a, (![0, o] : Fin 2 → ℕ) a + S64x128.size a ≤ S64x1024.size a)
    (inb' : ∀ a, (![0, o'] : Fin 2 → ℕ) a + S64x128.size a ≤ S64x1024.size a) (w : Vec Ideal S64x128 .f32) (L : List (View.Piece (Elt Ideal) S64x1024 .f32))
    (h : o' + 128 ≤ o) :
    v.readCov (⟨Rect.unit (s := S64x1024) ![0, o] S64x128.size inb, w⟩ :: L) (Rect.unit (s := S64x1024) ![0, o'] S64x128.size inb').toLoadRect
      = v.readCov L (Rect.unit (s := S64x1024) ![0, o'] S64x128.size inb').toLoadRect :=
  View.readCov_cons_of_disjoint v _ L _ (Rect.unit_disjoint (s := S64x1024) (inb := inb) (inb' := inb') (1 : Fin 2) (Or.inr h))

variable {arg1 : Memref sig .tc .vmem S64x4096 .f32} (h1 : arg1.IsWhole) {arg2 : Memref sig .tc .vmem S16x4096 .i32} (h2 : arg2.IsWhole)
  {arg3 : Memref sig .tc .vmem S32x128 .f32} (h3 : arg3.IsWhole) {arg4 : Memref sig .tc .vmem S32x128 .f32} (h4 : arg4.IsWhole)
  {arg5 : Memref sig .tc .vmem S32x128 .f32} (h5 : arg5.IsWhole) {arg6 : Memref sig .tc .vmem S64x4096 .i32} (h6 : arg6.IsWhole)
  (arg11 : Memref sig .tc .vmem S64x1024 .f32)
  (x0 : Vec Ideal S64x4096 .f32) (x1 : Vec Ideal S16x4096 .i32) (x2 x3 x4 : Vec Ideal S32x128 .f32) (x5 : Vec Ideal S64x4096 .i32)
  (k : Fin k0_t1_loop.trips)

/-- The mean of the squared gradient, in row `r`. -/
theorem r5_at (r : Fin 8) (l : Fin 128) :
    (sl.r_5 (F := Ideal) arg1 (h1.unread x0) k) (ix2 r l) = (∑ a, gB x0 (kR k r) l a * gB x0 (kR k r) l a) * Ideal.ofBits .f32 0x3C800000#32 := by
  have hg : ∀ (t : Fin 8) (g : Vec Ideal S64x128 .f32), (∀ a, g (ix2 a l) = x0 (ix2 a (cIx (kR k t) l))) →
      (∑ a, g (ix2 a l) * g (ix2 a l)) * Ideal.ofBits .f32 0x3C800000#32
        = (∑ a, gB x0 (kR k t) l a * gB x0 (kR k t) l a) * Ideal.ofBits .f32 0x3C800000#32 := by
    intro t g h
    refine congrArg (· * _) (Finset.sum_congr rfl fun a _ => ?_)
    rw [h a]; rfl
  obtain ⟨e0, e1, e2, e3, e4, e5, e6, e7⟩ := Pay.meansq (View.readAt (Elt Ideal) arg1.view (Rect.unit (s := S64x4096) (k0_off1 k 0#32) S64x128.size (k0_off1_inb k 0)).toLoadRect (h1.unread x0)) (View.readAt (Elt Ideal) arg1.view (Rect.unit (s := S64x4096) (k0_off1 k 1#32) S64x128.size (k0_off1_inb k 1)).toLoadRect (h1.unread x0)) (View.readAt (Elt Ideal) arg1.view (Rect.unit (s := S64x4096) (k0_off1 k 2#32) S64x128.size (k0_off1_inb k 2)).toLoadRect (h1.unread x0)) (View.readAt (Elt Ideal) arg1.view (Rect.unit (s := S64x4096) (k0_off1 k 3#32) S64x128.size (k0_off1_inb k 3)).toLoadRect (h1.unread x0)) (View.readAt (Elt Ideal) arg1.view (Rect.unit (s := S64x4096) (k0_off1 k 4#32) S64x128.size (k0_off1_inb k 4)).toLoadRect (h1.unread x0)) (View.readAt (Elt Ideal) arg1.view (Rect.unit (s := S64x4096) (k0_off1 k 5#32) S64x128.size (k0_off1_inb k 5)).toLoadRect (h1.unread x0)) (View.readAt (Elt Ideal) arg1.view (Rect.unit (s := S64x4096) (k0_off1 k 6#32) S64x128.size (k0_off1_inb k 6)).toLoadRect (h1.unread x0)) (View.readAt (Elt Ideal) arg1.view (Rect.unit (s := S64x4096) (k0_off1 k 7#32) S64x128.size (k0_off1_inb k 7)).toLoadRect (h1.unread x0)) l
  match r with
  | ⟨0, _⟩ => exact e0.trans (hg 0 _ (ld1 h1 x0 k 0 _ rfl _ · l))
  | ⟨1, _⟩ => exact e1.trans (hg 1 _ (ld1 h1 x0 k 1 _ rfl _ · l))
  | ⟨2, _⟩ => exact e2.trans (hg 2 _ (ld1 h1 x0 k 2 _ rfl _ · l))
  | ⟨3, _⟩ => exact e3.trans (hg 3 _ (ld1 h1 x0 k 3 _ rfl _ · l))
  | ⟨4, _⟩ => exact e4.trans (hg 4 _ (ld1 h1 x0 k 4 _ rfl _ · l))
  | ⟨5, _⟩ => exact e5.trans (hg 5 _ (ld1 h1 x0 k 5 _ rfl _ · l))
  | ⟨6, _⟩ => exact e6.trans (hg 6 _ (ld1 h1 x0 k 6 _ rfl _ · l))
  | ⟨7, _⟩ => exact e7.trans (hg 7 _ (ld1 h1 x0 k 7 _ rfl _ · l))

/-- The new momentum, in row `r`. -/
theorem st_at (r : Fin 8) (l : Fin 128) :
    k0_pay8 (F := Ideal) (sl.r_4 (F := Ideal) arg5 (h5.unread x4) k) (sl.r_5 (F := Ideal) arg1 (h1.unread x0) k) (ix2 r l) = stB x0 x4 (kR k r) l := by
  rw [Pay.state, r5_at]
  refine congrArg (· + _) ?_
  unfold sl.r_4
  rw [Pay.id6]
  exact ldS h5 x4 k _ r l

theorem r6_at (r : Fin 8) (l : Fin 128) : (sl.r_6 (F := Ideal) arg1 arg5 (h1.unread x0) (h5.unread x4) k) (ix2 r l) = mulV (stB x0 x4 (kR k r) l) := by
  unfold sl.r_6
  rw [Pay.mul, st_at]

theorem r7_at (r : Fin 8) (l : Fin 128) : (sl.r_7 (F := Ideal) arg3 (h3.unread x2) k) (ix2 r l) = x2 (ix2 (kR k r) l) := by
  unfold sl.r_7
  rw [Pay.id10]
  exact ldS h3 x2 k _ r l

theorem r8_at (r : Fin 8) (l : Fin 128) : (sl.r_8 (F := Ideal) arg4 (h4.unread x3) k) (ix2 r l) = x3 (ix2 (kR k r) l) := by
  unfold sl.r_8
  rw [Pay.id11]
  exact ldS h4 x3 k _ r l

/-- The specification's weight from its parts. -/
theorem wB_of (t : Fin 8) (a : Fin 64) (l : Fin 128) {m s b : EReal} {c : BitVec 32} {g : EReal} (hm : m = mulV (stB x0 x4 (kR k t) l))
    (hs : s = x2 (ix2 (kR k t) l)) (hb : b = x3 (ix2 (kR k t) l)) (hc : c = x1 (ix2 ⟨a.val / 4, by omega⟩ (cIx (kR k t) l)))
    (hg : g = x0 (ix2 a (cIx (kR k t) l))) :
    wV m s b (byteAt c (a.val % 4)) g = wB x0 x1 x2 x3 x4 (kR k t) l a := by
  subst hm hs hb hc hg; rfl

/-- Tile 0: the updated weight. -/
theorem w0_at (a : Fin 64) (l : Fin 128) :
    k0_pay12 (F := Ideal) (sl.r_4 (F := Ideal) arg5 (h5.unread x4) k) (sl.r_5 (F := Ideal) arg1 (h1.unread x0) k) (View.readAt (Elt Ideal) arg3.view (Rect.unit (s := S32x128) (k0_off2 k) S8x128.size (k0_off2_inb k)).toLoadRect (h3.unread x2)) (View.readAt (Elt Ideal) arg4.view (Rect.unit (s := S32x128) (k0_off2 k) S8x128.size (k0_off2_inb k)).toLoadRect (h4.unread x3)) (View.readAt (Elt Ideal) arg2.view (Rect.unit (s := S16x4096) (k0_off3 k 0#32) S16x128.size (k0_off3_inb k 0)).toLoadRect (h2.unread x1)) (View.readAt (Elt Ideal) arg1.view (Rect.unit (s := S64x4096) (k0_off1 k 0#32) S64x128.size (k0_off1_inb k 0)).toLoadRect (h1.unread x0)) (ix2 a l) = wB x0 x1 x2 x3 x4 (kR k 0) l a :=
  (Pay.w0_12 _ _ _ _ _ _ a l).trans (wB_of x0 x1 x2 x3 x4 k 0 a l (r6_at h1 h5 x0 x4 k 0 l) (ldS h3 x2 k _ 0 l) (ldS h4 x3 k _ 0 l) (ld2 h2 x1 k 0 _ rfl _ _ l) (ld1 h1 x0 k 0 _ rfl _ a l))

/-- Tile 0: the weight stored in the scratch. -/
theorem s0_at (a : Fin 64) (l : Fin 128) :
    k0_pay13 (F := Ideal) (sl.r_4 (F := Ideal) arg5 (h5.unread x4) k) (sl.r_5 (F := Ideal) arg1 (h1.unread x0) k) (View.readAt (Elt Ideal) arg3.view (Rect.unit (s := S32x128) (k0_off2 k) S8x128.size (k0_off2_inb k)).toLoadRect (h3.unread x2)) (View.readAt (Elt Ideal) arg4.view (Rect.unit (s := S32x128) (k0_off2 k) S8x128.size (k0_off2_inb k)).toLoadRect (h4.unread x3)) (View.readAt (Elt Ideal) arg2.view (Rect.unit (s := S16x4096) (k0_off3 k 0#32) S16x128.size (k0_off3_inb k 0)).toLoadRect (h2.unread x1)) (View.readAt (Elt Ideal) arg1.view (Rect.unit (s := S64x4096) (k0_off1 k 0#32) S64x128.size (k0_off1_inb k 0)).toLoadRect (h1.unread x0)) (ix2 a l) = wB x0 x1 x2 x3 x4 (kR k 0) l a :=
  (Pay.w0_13 _ _ _ _ _ _ a l).trans (wB_of x0 x1 x2 x3 x4 k 0 a l (r6_at h1 h5 x0 x4 k 0 l) (ldS h3 x2 k _ 0 l) (ldS h4 x3 k _ 0 l) (ld2 h2 x1 k 0 _ rfl _ _ l) (ld1 h1 x0 k 0 _ rfl _ a l))

/-- Tile 1: the updated weight. -/
theorem w1_at (a : Fin 64) (l : Fin 128) :
    k0_pay16 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 1#32) S16x128.size (k0_off3_inb k 1)).toLoadRect (h2.unread x1)) (View.readAt (Elt Ideal) arg1.view (Rect.unit (s := S64x4096) (k0_off1 k 1#32) S64x128.size (k0_off1_inb k 1)).toLoadRect (h1.unread x0)) (ix2 a l) = wB x0 x1 x2 x3 x4 (kR k 1) l a :=
  (Pay.w1_16 _ _ _ _ _ a l).trans (wB_of x0 x1 x2 x3 x4 k 1 a l (r6_at h1 h5 x0 x4 k 1 l) (r7_at h3 x2 k 1 l) (r8_at h4 x3 k 1 l) (ld2 h2 x1 k 1 _ rfl _ _ l) (ld1 h1 x0 k 1 _ rfl _ a l))

/-- Tile 1: the weight stored in the scratch. -/
theorem s1_at (a : Fin 64) (l : Fin 128) :
    k0_pay17 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 1#32) S16x128.size (k0_off3_inb k 1)).toLoadRect (h2.unread x1)) (View.readAt (Elt Ideal) arg1.view (Rect.unit (s := S64x4096) (k0_off1 k 1#32) S64x128.size (k0_off1_inb k 1)).toLoadRect (h1.unread x0)) (ix2 a l) = wB x0 x1 x2 x3 x4 (kR k 1) l a :=
  (Pay.w1_17 _ _ _ _ _ a l).trans (wB_of x0 x1 x2 x3 x4 k 1 a l (r6_at h1 h5 x0 x4 k 1 l) (r7_at h3 x2 k 1 l) (r8_at h4 x3 k 1 l) (ld2 h2 x1 k 1 _ rfl _ _ l) (ld1 h1 x0 k 1 _ rfl _ a l))

/-- Tile 2: the updated weight. -/
theorem w2_at (a : Fin 64) (l : Fin 128) :
    k0_pay23 (F := Ideal) (sl.r_13 (F := Ideal) arg2 arg3 arg4 (h2.unread x1) (h3.unread x2) (h4.unread x3) k) (sl.r_14 (F := Ideal) arg1 (h1.unread x0) k) (sl.r_15 (F := Ideal) arg1 arg5 (h1.unread x0) (h5.unread x4) k) (ix2 a l) = wB x0 x1 x2 x3 x4 (kR k 2) l a :=
  (Pay.w2_23 _ _ _ _ _ a l).trans (wB_of x0 x1 x2 x3 x4 k 2 a l (r6_at h1 h5 x0 x4 k 2 l) (r7_at h3 x2 k 2 l) (r8_at h4 x3 k 2 l) (ld2 h2 x1 k 2 _ rfl _ _ l) (ld1 h1 x0 k 2 _ rfl _ a l))

/-- Tile 2: the weight stored in the scratch. -/
theorem s2_at (a : Fin 64) (l : Fin 128) :
    k0_pay24 (F := Ideal) (sl.r_13 (F := Ideal) arg2 arg3 arg4 (h2.unread x1) (h3.unread x2) (h4.unread x3) k) (sl.r_14 (F := Ideal) arg1 (h1.unread x0) k) (sl.r_15 (F := Ideal) arg1 arg5 (h1.unread x0) (h5.unread x4) k) (ix2 a l) = wB x0 x1 x2 x3 x4 (kR k 2) l a :=
  (Pay.w2_24 _ _ _ a l).trans (w2_at h1 h2 h3 h4 h5 x0 x1 x2 x3 x4 k a l)

/-- Tile 3: the updated weight. -/
theorem w3_at (a : Fin 64) (l : Fin 128) :
    k0_pay27 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 3#32) S16x128.size (k0_off3_inb k 3)).toLoadRect (h2.unread x1)) (View.readAt (Elt Ideal) arg1.view (Rect.unit (s := S64x4096) (k0_off1 k 3#32) S64x128.size (k0_off1_inb k 3)).toLoadRect (h1.unread x0)) (ix2 a l) = wB x0 x1 x2 x3 x4 (kR k 3) l a :=
  (Pay.w3_27 _ _ _ _ _ a l).trans (wB_of x0 x1 x2 x3 x4 k 3 a l (r6_at h1 h5 x0 x4 k 3 l) (r7_at h3 x2 k 3 l) (r8_at h4 x3 k 3 l) (ld2 h2 x1 k 3 _ rfl _ _ l) (ld1 h1 x0 k 3 _ rfl _ a l))

/-- Tile 3: the weight stored in the scratch. -/
theorem s3_at (a : Fin 64) (l : Fin 128) :
    k0_pay28 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 3#32) S16x128.size (k0_off3_inb k 3)).toLoadRect (h2.unread x1)) (View.readAt (Elt Ideal) arg1.view (Rect.unit (s := S64x4096) (k0_off1 k 3#32) S64x128.size (k0_off1_inb k 3)).toLoadRect (h1.unread x0)) (ix2 a l) = wB x0 x1 x2 x3 x4 (kR k 3) l a :=
  (Pay.w3_28 _ _ _ _ _ a l).trans (wB_of x0 x1 x2 x3 x4 k 3 a l (r6_at h1 h5 x0 x4 k 3 l) (r7_at h3 x2 k 3 l) (r8_at h4 x3 k 3 l) (ld2 h2 x1 k 3 _ rfl _ _ l) (ld1 h1 x0 k 3 _ rfl _ a l))

/-- Tile 4: the updated weight. -/
theorem w4_at (a : Fin 64) (l : Fin 128) :
    k0_pay31 (F := Ideal) (sl.r_6 (F := Ideal) arg1 arg5 (h1.unread x0) (h5.unread x4) k) (sl.r_7 (F := Ideal) arg3 (h3.unread x2) k) (sl.r_8 (F := Ideal) arg4 (h4.unread x3) k) (sl.r_20 (F := Ideal) arg2 (h2.unread x1) k) (View.readAt (Elt Ideal) arg1.view (Rect.unit (s := S64x4096) (k0_off1 k 4#32) S64x128.size (k0_off1_inb k 4)).toLoadRect (h1.unread x0)) (ix2 a l) = wB x0 x1 x2 x3 x4 (kR k 4) l a :=
  (Pay.w4_31 _ _ _ _ _ a l).trans (wB_of x0 x1 x2 x3 x4 k 4 a l (r6_at h1 h5 x0 x4 k 4 l) (r7_at h3 x2 k 4 l) (r8_at h4 x3 k 4 l) (ld2 h2 x1 k 4 _ rfl _ _ l) (ld1 h1 x0 k 4 _ rfl _ a l))

/-- Tile 4: the weight stored in the scratch. -/
theorem s4_at (a : Fin 64) (l : Fin 128) :
    k0_pay32 (F := Ideal) (sl.r_6 (F := Ideal) arg1 arg5 (h1.unread x0) (h5.unread x4) k) (sl.r_7 (F := Ideal) arg3 (h3.unread x2) k) (sl.r_8 (F := Ideal) arg4 (h4.unread x3) k) (sl.r_20 (F := Ideal) arg2 (h2.unread x1) k) (View.readAt (Elt Ideal) arg1.view (Rect.unit (s := S64x4096) (k0_off1 k 4#32) S64x128.size (k0_off1_inb k 4)).toLoadRect (h1.unread x0)) (ix2 a l) = wB x0 x1 x2 x3 x4 (kR k 4) l a :=
  (Pay.w4_32 _ _ _ _ _ a l).trans (wB_of x0 x1 x2 x3 x4 k 4 a l (r6_at h1 h5 x0 x4 k 4 l) (r7_at h3 x2 k 4 l) (r8_at h4 x3 k 4 l) (ld2 h2 x1 k 4 _ rfl _ _ l) (ld1 h1 x0 k 4 _ rfl _ a l))

/-- Tile 5: the updated weight. -/
theorem w5_at (a : Fin 64) (l : Fin 128) :
    (sl.r_23 (F := Ideal) arg1 arg2 arg3 arg4 arg5 (h1.unread x0) (h2.unread x1) (h3.unread x2) (h4.unread x3) (h5.unread x4) k) (ix2 a l) = wB x0 x1 x2 x3 x4 (kR k 5) l a :=
  (Pay.w5_35 _ _ _ _ _ a l).trans (wB_of x0 x1 x2 x3 x4 k 5 a l (r6_at h1 h5 x0 x4 k 5 l) (r7_at h3 x2 k 5 l) (r8_at h4 x3 k 5 l) (ld2 h2 x1 k 5 _ rfl _ _ l) (ld1 h1 x0 k 5 _ rfl _ a l))

/-- Tile 5: the weight stored in the scratch. -/
theorem s5_at (a : Fin 64) (l : Fin 128) :
    k0_pay36 (F := Ideal) (sl.r_23 (F := Ideal) arg1 arg2 arg3 arg4 arg5 (h1.unread x0) (h2.unread x1) (h3.unread x2) (h4.unread x3) (h5.unread x4) k) (ix2 a l) = wB x0 x1 x2 x3 x4 (kR k 5) l a :=
  (Pay.w5_36 _ a l).trans (w5_at h1 h2 h3 h4 h5 x0 x1 x2 x3 x4 k a l)

/-- Tile 6: the updated weight. -/
theorem w6_at (a : Fin 64) (l : Fin 128) :
    k0_pay39 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 6#32) S16x128.size (k0_off3_inb k 6)).toLoadRect (h2.unread x1)) (View.readAt (Elt Ideal) arg1.view (Rect.unit (s := S64x4096) (k0_off1 k 6#32) S64x128.size (k0_off1_inb k 6)).toLoadRect (h1.unread x0)) (ix2 a l) = wB x0 x1 x2 x3 x4 (kR k 6) l a :=
  (Pay.w6_39 _ _ _ _ _ a l).trans (wB_of x0 x1 x2 x3 x4 k 6 a l (r6_at h1 h5 x0 x4 k 6 l) (r7_at h3 x2 k 6 l) (r8_at h4 x3 k 6 l) (ld2 h2 x1 k 6 _ rfl _ _ l) (ld1 h1 x0 k 6 _ rfl _ a l))

/-- Tile 6: the weight stored in the scratch. -/
theorem s6_at (a : Fin 64) (l : Fin 128) :
    k0_pay40 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 6#32) S16x128.size (k0_off3_inb k 6)).toLoadRect (h2.unread x1)) (View.readAt (Elt Ideal) arg1.view (Rect.unit (s := S64x4096) (k0_off1 k 6#32) S64x128.size (k0_off1_inb k 6)).toLoadRect (h1.unread x0)) (ix2 a l) = wB x0 x1 x2 x3 x4 (kR k 6) l a :=
  (Pay.w6_40 _ _ _ _ _ a l).trans (wB_of x0 x1 x2 x3 x4 k 6 a l (r6_at h1 h5 x0 x4 k 6 l) (r7_at h3 x2 k 6 l) (r8_at h4 x3 k 6 l) (ld2 h2 x1 k 6 _ rfl _ _ l) (ld1 h1 x0 k 6 _ rfl _ a l))

/-- Tile 7: the updated weight. -/
theorem w7_at (a : Fin 64) (l : Fin 128) :
    k0_pay45 (F := Ideal) (sl.r_6 (F := Ideal) arg1 arg5 (h1.unread x0) (h5.unread x4) k) (sl.r_8 (F := Ideal) arg4 (h4.unread x3) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0)) (ix2 a l) = wB x0 x1 x2 x3 x4 (kR k 7) l a :=
  (Pay.w7_45 _ _ _ _ _ a l).trans (wB_of x0 x1 x2 x3 x4 k 7 a l (r6_at h1 h5 x0 x4 k 7 l) (r7_at h3 x2 k 7 l) (r8_at h4 x3 k 7 l) (ld2 h2 x1 k 7 _ rfl _ _ l) (ld1 h1 x0 k 7 _ rfl _ a l))

/-- Tile 7: the weight stored in the scratch. -/
theorem s7_at (a : Fin 64) (l : Fin 128) :
    k0_pay46 (F := Ideal) (sl.r_6 (F := Ideal) arg1 arg5 (h1.unread x0) (h5.unread x4) k) (sl.r_8 (F := Ideal) arg4 (h4.unread x3) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0)) (ix2 a l) = wB x0 x1 x2 x3 x4 (kR k 7) l a :=
  (Pay.w7_46 _ _ _ _ _ a l).trans (w7_at h1 h2 h3 h4 h5 x0 x1 x2 x3 x4 k a l)

theorem mn0_at (l : Fin 128) : (sl.r_9 (F := Ideal) arg1 arg2 arg3 arg4 arg5 (h1.unread x0) (h2.unread x1) (h3.unread x2) (h4.unread x3) (h5.unread x4) k) (ix2 0 l) = mnV (wB x0 x1 x2 x3 x4 (kR k 0) l) :=
  (Pay.mn0 _ _ _ _ _ _ l).trans (congrArg mnV (funext fun a => w0_at h1 h2 h3 h4 h5 x0 x1 x2 x3 x4 k a l))

theorem mx0_at (l : Fin 128) : (sl.r_10 (F := Ideal) arg1 arg2 arg3 arg4 arg5 (h1.unread x0) (h2.unread x1) (h3.unread x2) (h4.unread x3) (h5.unread x4) k) (ix2 0 l) = mxV (wB x0 x1 x2 x3 x4 (kR k 0) l) :=
  (Pay.mx0 _ _ _ _ _ _ l).trans (congrArg mxV (funext fun a => w0_at h1 h2 h3 h4 h5 x0 x1 x2 x3 x4 k a l))

theorem mn1_at (l : Fin 128) : (sl.r_11 (F := Ideal) arg1 arg2 arg3 arg4 arg5 (h1.unread x0) (h2.unread x1) (h3.unread x2) (h4.unread x3) (h5.unread x4) k) (ix2 0 l) = mnV (wB x0 x1 x2 x3 x4 (kR k 1) l) :=
  (Pay.mn1 _ _ _ _ _ l).trans (congrArg mnV (funext fun a => w1_at h1 h2 h3 h4 h5 x0 x1 x2 x3 x4 k a l))

theorem mx1_at (l : Fin 128) : (sl.r_12 (F := Ideal) arg1 arg2 arg3 arg4 arg5 (h1.unread x0) (h2.unread x1) (h3.unread x2) (h4.unread x3) (h5.unread x4) k) (ix2 0 l) = mxV (wB x0 x1 x2 x3 x4 (kR k 1) l) :=
  (Pay.mx1 _ _ _ _ _ l).trans (congrArg mxV (funext fun a => w1_at h1 h2 h3 h4 h5 x0 x1 x2 x3 x4 k a l))

theorem mn2_at (l : Fin 128) : (sl.r_16 (F := Ideal) arg1 arg2 arg3 arg4 arg5 (h1.unread x0) (h2.unread x1) (h3.unread x2) (h4.unread x3) (h5.unread x4) k) (ix2 0 l) = mnV (wB x0 x1 x2 x3 x4 (kR k 2) l) :=
  (Pay.mn2 _ _ _ l).trans (congrArg mnV (funext fun a => w2_at h1 h2 h3 h4 h5 x0 x1 x2 x3 x4 k a l))

theorem mx2_at (l : Fin 128) : (sl.r_17 (F := Ideal) arg1 arg2 arg3 arg4 arg5 (h1.unread x0) (h2.unread x1) (h3.unread x2) (h4.unread x3) (h5.unread x4) k) (ix2 0 l) = mxV (wB x0 x1 x2 x3 x4 (kR k 2) l) :=
  (Pay.mx2 _ _ _ l).trans (congrArg mxV (funext fun a => w2_at h1 h2 h3 h4 h5 x0 x1 x2 x3 x4 k a l))

theorem mn3_at (l : Fin 128) : (sl.r_18 (F := Ideal) arg1 arg2 arg3 arg4 arg5 (h1.unread x0) (h2.unread x1) (h3.unread x2) (h4.unread x3) (h5.unread x4) k) (ix2 0 l) = mnV (wB x0 x1 x2 x3 x4 (kR k 3) l) :=
  (Pay.mn3 _ _ _ _ _ l).trans (congrArg mnV (funext fun a => w3_at h1 h2 h3 h4 h5 x0 x1 x2 x3 x4 k a l))

theorem mx3_at (l : Fin 128) : (sl.r_19 (F := Ideal) arg1 arg2 arg3 arg4 arg5 (h1.unread x0) (h2.unread x1) (h3.unread x2) (h4.unread x3) (h5.unread x4) k) (ix2 0 l) = mxV (wB x0 x1 x2 x3 x4 (kR k 3) l) :=
  (Pay.mx3 _ _ _ _ _ l).trans (congrArg mxV (funext fun a => w3_at h1 h2 h3 h4 h5 x0 x1 x2 x3 x4 k a l))

theorem mn4_at (l : Fin 128) : (sl.r_21 (F := Ideal) arg1 arg2 arg3 arg4 arg5 (h1.unread x0) (h2.unread x1) (h3.unread x2) (h4.unread x3) (h5.unread x4) k) (ix2 0 l) = mnV (wB x0 x1 x2 x3 x4 (kR k 4) l) :=
  (Pay.mn4 _ _ _ _ _ l).trans (congrArg mnV (funext fun a => w4_at h1 h2 h3 h4 h5 x0 x1 x2 x3 x4 k a l))

theorem mx4_at (l : Fin 128) : (sl.r_22 (F := Ideal) arg1 arg2 arg3 arg4 arg5 (h1.unread x0) (h2.unread x1) (h3.unread x2) (h4.unread x3) (h5.unread x4) k) (ix2 0 l) = mxV (wB x0 x1 x2 x3 x4 (kR k 4) l) :=
  (Pay.mx4 _ _ _ _ _ l).trans (congrArg mxV (funext fun a => w4_at h1 h2 h3 h4 h5 x0 x1 x2 x3 x4 k a l))

theorem mn5_at (l : Fin 128) : (sl.r_24 (F := Ideal) arg1 arg2 arg3 arg4 arg5 (h1.unread x0) (h2.unread x1) (h3.unread x2) (h4.unread x3) (h5.unread x4) k) (ix2 0 l) = mnV (wB x0 x1 x2 x3 x4 (kR k 5) l) :=
  (Pay.mn5 _ l).trans (congrArg mnV (funext fun a => w5_at h1 h2 h3 h4 h5 x0 x1 x2 x3 x4 k a l))

theorem mx5_at (l : Fin 128) : (sl.r_25 (F := Ideal) arg1 arg2 arg3 arg4 arg5 (h1.unread x0) (h2.unread x1) (h3.unread x2) (h4.unread x3) (h5.unread x4) k) (ix2 0 l) = mxV (wB x0 x1 x2 x3 x4 (kR k 5) l) :=
  (Pay.mx5 _ l).trans (congrArg mxV (funext fun a => w5_at h1 h2 h3 h4 h5 x0 x1 x2 x3 x4 k a l))

theorem mn6_at (l : Fin 128) : (sl.r_26 (F := Ideal) arg1 arg2 arg3 arg4 arg5 (h1.unread x0) (h2.unread x1) (h3.unread x2) (h4.unread x3) (h5.unread x4) k) (ix2 0 l) = mnV (wB x0 x1 x2 x3 x4 (kR k 6) l) :=
  (Pay.mn6 _ _ _ _ _ l).trans (congrArg mnV (funext fun a => w6_at h1 h2 h3 h4 h5 x0 x1 x2 x3 x4 k a l))

theorem mx6_at (l : Fin 128) : (sl.r_27 (F := Ideal) arg1 arg2 arg3 arg4 arg5 (h1.unread x0) (h2.unread x1) (h3.unread x2) (h4.unread x3) (h5.unread x4) k) (ix2 0 l) = mxV (wB x0 x1 x2 x3 x4 (kR k 6) l) :=
  (Pay.mx6 _ _ _ _ _ l).trans (congrArg mxV (funext fun a => w6_at h1 h2 h3 h4 h5 x0 x1 x2 x3 x4 k a l))

/-- The new biases, in row `r`. -/
theorem bias_at (r : Fin 8) (l : Fin 128) :
    k0_pay47 (F := Ideal) (sl.r_6 (F := Ideal) arg1 arg5 (h1.unread x0) (h5.unread x4) k) (sl.r_8 (F := Ideal) arg4 (h4.unread x3) k) (sl.r_9 (F := Ideal) arg1 arg2 arg3 arg4 arg5 (h1.unread x0) (h2.unread x1) (h3.unread x2) (h4.unread x3) (h5.unread x4) k) (sl.r_11 (F := Ideal) arg1 arg2 arg3 arg4 arg5 (h1.unread x0) (h2.unread x1) (h3.unread x2) (h4.unread x3) (h5.unread x4) k) (sl.r_16 (F := Ideal) arg1 arg2 arg3 arg4 arg5 (h1.unread x0) (h2.unread x1) (h3.unread x2) (h4.unread x3) (h5.unread x4) k) (sl.r_18 (F := Ideal) arg1 arg2 arg3 arg4 arg5 (h1.unread x0) (h2.unread x1) (h3.unread x2) (h4.unread x3) (h5.unread x4) k) (sl.r_21 (F := Ideal) arg1 arg2 arg3 arg4 arg5 (h1.unread x0) (h2.unread x1) (h3.unread x2) (h4.unread x3) (h5.unread x4) k) (sl.r_24 (F := Ideal) arg1 arg2 arg3 arg4 arg5 (h1.unread x0) (h2.unread x1) (h3.unread x2) (h4.unread x3) (h5.unread x4) k) (sl.r_26 (F := Ideal) arg1 arg2 arg3 arg4 arg5 (h1.unread x0) (h2.unread x1) (h3.unread x2) (h4.unread x3) (h5.unread x4) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0)) (ix2 r l) = mnV (wB x0 x1 x2 x3 x4 (kR k r) l) := by
  match r with
  | ⟨0, _⟩ => exact (Pay.bias0 _ _ _ _ _ _ _ _ _ _ _ _ l).trans (mn0_at h1 h2 h3 h4 h5 x0 x1 x2 x3 x4 k l)
  | ⟨1, _⟩ => exact (Pay.bias1 _ _ _ _ _ _ _ _ _ _ _ _ l).trans (mn1_at h1 h2 h3 h4 h5 x0 x1 x2 x3 x4 k l)
  | ⟨2, _⟩ => exact (Pay.bias2 _ _ _ _ _ _ _ _ _ _ _ _ l).trans (mn2_at h1 h2 h3 h4 h5 x0 x1 x2 x3 x4 k l)
  | ⟨3, _⟩ => exact (Pay.bias3 _ _ _ _ _ _ _ _ _ _ _ _ l).trans (mn3_at h1 h2 h3 h4 h5 x0 x1 x2 x3 x4 k l)
  | ⟨4, _⟩ => exact (Pay.bias4 _ _ _ _ _ _ _ _ _ _ _ _ l).trans (mn4_at h1 h2 h3 h4 h5 x0 x1 x2 x3 x4 k l)
  | ⟨5, _⟩ => exact (Pay.bias5 _ _ _ _ _ _ _ _ _ _ _ _ l).trans (mn5_at h1 h2 h3 h4 h5 x0 x1 x2 x3 x4 k l)
  | ⟨6, _⟩ => exact (Pay.bias6 _ _ _ _ _ _ _ _ _ _ _ _ l).trans (mn6_at h1 h2 h3 h4 h5 x0 x1 x2 x3 x4 k l)
  | ⟨7, _⟩ => exact (Pay.bias7 _ _ _ _ _ _ _ _ _ _ _ _ l).trans (congrArg mnV (funext fun a => w7_at h1 h2 h3 h4 h5 x0 x1 x2 x3 x4 k a l))

/-- The ranges, in row `r`. -/
theorem rng_at (r : Fin 8) (l : Fin 128) :
    k0_pay48 (F := Ideal) (sl.r_6 (F := Ideal) arg1 arg5 (h1.unread x0) (h5.unread x4) k) (sl.r_8 (F := Ideal) arg4 (h4.unread x3) k) (sl.r_9 (F := Ideal) arg1 arg2 arg3 arg4 arg5 (h1.unread x0) (h2.unread x1) (h3.unread x2) (h4.unread x3) (h5.unread x4) k) (sl.r_10 (F := Ideal) arg1 arg2 arg3 arg4 arg5 (h1.unread x0) (h2.unread x1) (h3.unread x2) (h4.unread x3) (h5.unread x4) k) (sl.r_11 (F := Ideal) arg1 arg2 arg3 arg4 arg5 (h1.unread x0) (h2.unread x1) (h3.unread x2) (h4.unread x3) (h5.unread x4) k) (sl.r_12 (F := Ideal) arg1 arg2 arg3 arg4 arg5 (h1.unread x0) (h2.unread x1) (h3.unread x2) (h4.unread x3) (h5.unread x4) k) (sl.r_16 (F := Ideal) arg1 arg2 arg3 arg4 arg5 (h1.unread x0) (h2.unread x1) (h3.unread x2) (h4.unread x3) (h5.unread x4) k) (sl.r_17 (F := Ideal) arg1 arg2 arg3 arg4 arg5 (h1.unread x0) (h2.unread x1) (h3.unread x2) (h4.unread x3) (h5.unread x4) k) (sl.r_18 (F := Ideal) arg1 arg2 arg3 arg4 arg5 (h1.unread x0) (h2.unread x1) (h3.unread x2) (h4.unread x3) (h5.unread x4) k) (sl.r_19 (F := Ideal) arg1 arg2 arg3 arg4 arg5 (h1.unread x0) (h2.unread x1) (h3.unread x2) (h4.unread x3) (h5.unread x4) k) (sl.r_21 (F := Ideal) arg1 arg2 arg3 arg4 arg5 (h1.unread x0) (h2.unread x1) (h3.unread x2) (h4.unread x3) (h5.unread x4) k) (sl.r_22 (F := Ideal) arg1 arg2 arg3 arg4 arg5 (h1.unread x0) (h2.unread x1) (h3.unread x2) (h4.unread x3) (h5.unread x4) k) (sl.r_24 (F := Ideal) arg1 arg2 arg3 arg4 arg5 (h1.unread x0) (h2.unread x1) (h3.unread x2) (h4.unread x3) (h5.unread x4) k) (sl.r_25 (F := Ideal) arg1 arg2 arg3 arg4 arg5 (h1.unread x0) (h2.unread x1) (h3.unread x2) (h4.unread x3) (h5.unread x4) k) (sl.r_26 (F := Ideal) arg1 arg2 arg3 arg4 arg5 (h1.unread x0) (h2.unread x1) (h3.unread x2) (h4.unread x3) (h5.unread x4) k) (sl.r_27 (F := Ideal) arg1 arg2 arg3 arg4 arg5 (h1.unread x0) (h2.unread x1) (h3.unread x2) (h4.unread x3) (h5.unread x4) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0)) (ix2 r l) = mxV (wB x0 x1 x2 x3 x4 (kR k r) l) - mnV (wB x0 x1 x2 x3 x4 (kR k r) l) := by
  match r with
  | ⟨0, _⟩ => exact (Pay.rng0 _ _ _ _ _ _ _ _ _ _ _ _ _ _ _ _ _ _ _ l).trans (congrArg₂ (· - ·) (mx0_at h1 h2 h3 h4 h5 x0 x1 x2 x3 x4 k l) (bias_at h1 h2 h3 h4 h5 x0 x1 x2 x3 x4 k 0 l))
  | ⟨1, _⟩ => exact (Pay.rng1 _ _ _ _ _ _ _ _ _ _ _ _ _ _ _ _ _ _ _ l).trans (congrArg₂ (· - ·) (mx1_at h1 h2 h3 h4 h5 x0 x1 x2 x3 x4 k l) (bias_at h1 h2 h3 h4 h5 x0 x1 x2 x3 x4 k 1 l))
  | ⟨2, _⟩ => exact (Pay.rng2 _ _ _ _ _ _ _ _ _ _ _ _ _ _ _ _ _ _ _ l).trans (congrArg₂ (· - ·) (mx2_at h1 h2 h3 h4 h5 x0 x1 x2 x3 x4 k l) (bias_at h1 h2 h3 h4 h5 x0 x1 x2 x3 x4 k 2 l))
  | ⟨3, _⟩ => exact (Pay.rng3 _ _ _ _ _ _ _ _ _ _ _ _ _ _ _ _ _ _ _ l).trans (congrArg₂ (· - ·) (mx3_at h1 h2 h3 h4 h5 x0 x1 x2 x3 x4 k l) (bias_at h1 h2 h3 h4 h5 x0 x1 x2 x3 x4 k 3 l))
  | ⟨4, _⟩ => exact (Pay.rng4 _ _ _ _ _ _ _ _ _ _ _ _ _ _ _ _ _ _ _ l).trans (congrArg₂ (· - ·) (mx4_at h1 h2 h3 h4 h5 x0 x1 x2 x3 x4 k l) (bias_at h1 h2 h3 h4 h5 x0 x1 x2 x3 x4 k 4 l))
  | ⟨5, _⟩ => exact (Pay.rng5 _ _ _ _ _ _ _ _ _ _ _ _ _ _ _ _ _ _ _ l).trans (congrArg₂ (· - ·) (mx5_at h1 h2 h3 h4 h5 x0 x1 x2 x3 x4 k l) (bias_at h1 h2 h3 h4 h5 x0 x1 x2 x3 x4 k 5 l))
  | ⟨6, _⟩ => exact (Pay.rng6 _ _ _ _ _ _ _ _ _ _ _ _ _ _ _ _ _ _ _ l).trans (congrArg₂ (· - ·) (mx6_at h1 h2 h3 h4 h5 x0 x1 x2 x3 x4 k l) (bias_at h1 h2 h3 h4 h5 x0 x1 x2 x3 x4 k 6 l))
  | ⟨7, _⟩ => exact (Pay.rng7 _ _ _ _ _ _ _ _ _ _ _ _ _ _ _ _ _ _ _ l).trans (congrArg₂ (· - ·) (congrArg mxV (funext fun a => w7_at h1 h2 h3 h4 h5 x0 x1 x2 x3 x4 k a l)) (bias_at h1 h2 h3 h4 h5 x0 x1 x2 x3 x4 k 7 l))

/-- The new scales, in row `r`. -/
theorem scale_at (r : Fin 8) (l : Fin 128) :
    k0_pay49 (F := Ideal) (sl.r_6 (F := Ideal) arg1 arg5 (h1.unread x0) (h5.unread x4) k) (sl.r_8 (F := Ideal) arg4 (h4.unread x3) k) (sl.r_9 (F := Ideal) arg1 arg2 arg3 arg4 arg5 (h1.unread x0) (h2.unread x1) (h3.unread x2) (h4.unread x3) (h5.unread x4) k) (sl.r_10 (F := Ideal) arg1 arg2 arg3 arg4 arg5 (h1.unread x0) (h2.unread x1) (h3.unread x2) (h4.unread x3) (h5.unread x4) k) (sl.r_11 (F := Ideal) arg1 arg2 arg3 arg4 arg5 (h1.unread x0) (h2.unread x1) (h3.unread x2) (h4.unread x3) (h5.unread x4) k) (sl.r_12 (F := Ideal) arg1 arg2 arg3 arg4 arg5 (h1.unread x0) (h2.unread x1) (h3.unread x2) (h4.unread x3) (h5.unread x4) k) (sl.r_16 (F := Ideal) arg1 arg2 arg3 arg4 arg5 (h1.unread x0) (h2.unread x1) (h3.unread x2) (h4.unread x3) (h5.unread x4) k) (sl.r_17 (F := Ideal) arg1 arg2 arg3 arg4 arg5 (h1.unread x0) (h2.unread x1) (h3.unread x2) (h4.unread x3) (h5.unread x4) k) (sl.r_18 (F := Ideal) arg1 arg2 arg3 arg4 arg5 (h1.unread x0) (h2.unread x1) (h3.unread x2) (h4.unread x3) (h5.unread x4) k) (sl.r_19 (F := Ideal) arg1 arg2 arg3 arg4 arg5 (h1.unread x0) (h2.unread x1) (h3.unread x2) (h4.unread x3) (h5.unread x4) k) (sl.r_21 (F := Ideal) arg1 arg2 arg3 arg4 arg5 (h1.unread x0) (h2.unread x1) (h3.unread x2) (h4.unread x3) (h5.unread x4) k) (sl.r_22 (F := Ideal) arg1 arg2 arg3 arg4 arg5 (h1.unread x0) (h2.unread x1) (h3.unread x2) (h4.unread x3) (h5.unread x4) k) (sl.r_24 (F := Ideal) arg1 arg2 arg3 arg4 arg5 (h1.unread x0) (h2.unread x1) (h3.unread x2) (h4.unread x3) (h5.unread x4) k) (sl.r_25 (F := Ideal) arg1 arg2 arg3 arg4 arg5 (h1.unread x0) (h2.unread x1) (h3.unread x2) (h4.unread x3) (h5.unread x4) k) (sl.r_26 (F := Ideal) arg1 arg2 arg3 arg4 arg5 (h1.unread x0) (h2.unread x1) (h3.unread x2) (h4.unread x3) (h5.unread x4) k) (sl.r_27 (F := Ideal) arg1 arg2 arg3 arg4 arg5 (h1.unread x0) (h2.unread x1) (h3.unread x2) (h4.unread x3) (h5.unread x4) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0)) (ix2 r l) = scV (wB x0 x1 x2 x3 x4 (kR k r) l) :=
  (Pay.scale _ _ _ _ _ _ _ _ _ _ _ _ _ _ _ _ _ _ _ r l).trans (congrArg (Ideal.div · _) (rng_at h1 h2 h3 h4 h5 x0 x1 x2 x3 x4 k r l))

theorem r30_at (r : Fin 8) (l : Fin 128) : (sl.r_30 (F := Ideal) arg1 arg2 arg3 arg4 arg5 (h1.unread x0) (h2.unread x1) (h3.unread x2) (h4.unread x3) (h5.unread x4) k) (ix2 r l) = mnV (wB x0 x1 x2 x3 x4 (kR k r) l) := bias_at h1 h2 h3 h4 h5 x0 x1 x2 x3 x4 k r l

theorem r31_at (r : Fin 8) (l : Fin 128) : (sl.r_31 (F := Ideal) arg1 arg2 arg3 arg4 arg5 (h1.unread x0) (h2.unread x1) (h3.unread x2) (h4.unread x3) (h5.unread x4) k) (ix2 r l) = invV (wB x0 x1 x2 x3 x4 (kR k r) l) :=
  (Pay.inv _ _ _ _ _ _ _ _ _ _ _ _ _ _ _ _ _ _ _ r l).trans (congrArg (fun v => Ideal.div _ (v + _)) (rng_at h1 h2 h3 h4 h5 x0 x1 x2 x3 x4 k r l))

/-- Tile 0 read back from the scratch. -/
theorem v0_at (a : Fin 64) (l : Fin 128) : (sl.v345 (F := Ideal) arg1 arg2 arg3 arg4 arg5 arg11 (h1.unread x0) (h2.unread x1) (h3.unread x2) (h4.unread x3) (h5.unread x4) k) (ix2 a l) = wB x0 x1 x2 x3 x4 (kR k 0) l a := by
  refine Eq.trans (congrFun (?_ : (sl.v345 (F := Ideal) arg1 arg2 arg3 arg4 arg5 arg11 (h1.unread x0) (h2.unread x1) (h3.unread x2) (h4.unread x3) (h5.unread x4) k) = k0_pay13 (F := Ideal) (sl.r_4 (F := Ideal) arg5 (h5.unread x4) k) (sl.r_5 (F := Ideal) arg1 (h1.unread x0) k) (View.readAt (Elt Ideal) arg3.view (Rect.unit (s := S32x128) (k0_off2 k) S8x128.size (k0_off2_inb k)).toLoadRect (h3.unread x2)) (View.readAt (Elt Ideal) arg4.view (Rect.unit (s := S32x128) (k0_off2 k) S8x128.size (k0_off2_inb k)).toLoadRect (h4.unread x3)) (View.readAt (Elt Ideal) arg2.view (Rect.unit (s := S16x4096) (k0_off3 k 0#32) S16x128.size (k0_off3_inb k 0)).toLoadRect (h2.unread x1)) (View.readAt (Elt Ideal) arg1.view (Rect.unit (s := S64x4096) (k0_off1 k 0#32) S64x128.size (k0_off1_inb k 0)).toLoadRect (h1.unread x0))) (ix2 a l)) (s0_at h1 h2 h3 h4 h5 x0 x1 x2 x3 x4 k a l)
  unfold sl.v345 sl.HW_arg11_8
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  exact View.readCov_cons_toLoadRect _ _ _ _

/-- Tile 1 read back from the scratch. -/
theorem v1_at (a : Fin 64) (l : Fin 128) : (sl.v373 (F := Ideal) arg1 arg2 arg3 arg4 arg5 arg11 (h1.unread x0) (h2.unread x1) (h3.unread x2) (h4.unread x3) (h5.unread x4) k) (ix2 a l) = wB x0 x1 x2 x3 x4 (kR k 1) l a := by
  refine Eq.trans (congrFun (?_ : (sl.v373 (F := Ideal) arg1 arg2 arg3 arg4 arg5 arg11 (h1.unread x0) (h2.unread x1) (h3.unread x2) (h4.unread x3) (h5.unread x4) k) = k0_pay17 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 1#32) S16x128.size (k0_off3_inb k 1)).toLoadRect (h2.unread x1)) (View.readAt (Elt Ideal) arg1.view (Rect.unit (s := S64x4096) (k0_off1 k 1#32) S64x128.size (k0_off1_inb k 1)).toLoadRect (h1.unread x0))) (ix2 a l)) (s1_at h1 h2 h3 h4 h5 x0 x1 x2 x3 x4 k a l)
  unfold sl.v373 sl.HW_arg11_8
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  exact View.readCov_cons_toLoadRect _ _ _ _

/-- Tile 2 read back from the scratch. -/
theorem v2_at (a : Fin 64) (l : Fin 128) : (sl.v401 (F := Ideal) arg1 arg2 arg3 arg4 arg5 arg11 (h1.unread x0) (h2.unread x1) (h3.unread x2) (h4.unread x3) (h5.unread x4) k) (ix2 a l) = wB x0 x1 x2 x3 x4 (kR k 2) l a := by
  refine Eq.trans (congrFun (?_ : (sl.v401 (F := Ideal) arg1 arg2 arg3 arg4 arg5 arg11 (h1.unread x0) (h2.unread x1) (h3.unread x2) (h4.unread x3) (h5.unread x4) k) = k0_pay24 (F := Ideal) (sl.r_13 (F := Ideal) arg2 arg3 arg4 (h2.unread x1) (h3.unread x2) (h4.unread x3) k) (sl.r_14 (F := Ideal) arg1 (h1.unread x0) k) (sl.r_15 (F := Ideal) arg1 arg5 (h1.unread x0) (h5.unread x4) k)) (ix2 a l)) (s2_at h1 h2 h3 h4 h5 x0 x1 x2 x3 x4 k a l)
  unfold sl.v401 sl.HW_arg11_8
  refine (skip _ _ _ _ _ (by norm_num)).trans ?_
  refine (skip _ _ _ _ _ (by norm_num)).trans ?_
  refine (skip _ _ _ _ _ (by norm_num)).trans ?_
  refine (skip _ _ _ _ _ (by norm_num)).trans ?_
  refine (skip _ _ _ _ _ (by norm_num)).trans ?_
  exact View.readCov_cons_toLoadRect _ _ _ _

/-- Tile 3 read back from the scratch. -/
theorem v3_at (a : Fin 64) (l : Fin 128) : (sl.v429 (F := Ideal) arg1 arg2 arg3 arg4 arg5 arg11 (h1.unread x0) (h2.unread x1) (h3.unread x2) (h4.unread x3) (h5.unread x4) k) (ix2 a l) = wB x0 x1 x2 x3 x4 (kR k 3) l a := by
  refine Eq.trans (congrFun (?_ : (sl.v429 (F := Ideal) arg1 arg2 arg3 arg4 arg5 arg11 (h1.unread x0) (h2.unread x1) (h3.unread x2) (h4.unread x3) (h5.unread x4) k) = k0_pay28 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 3#32) S16x128.size (k0_off3_inb k 3)).toLoadRect (h2.unread x1)) (View.readAt (Elt Ideal) arg1.view (Rect.unit (s := S64x4096) (k0_off1 k 3#32) S64x128.size (k0_off1_inb k 3)).toLoadRect (h1.unread x0))) (ix2 a l)) (s3_at h1 h2 h3 h4 h5 x0 x1 x2 x3 x4 k a l)
  unfold sl.v429 sl.HW_arg11_8
  refine (skip _ _ _ _ _ (by norm_num)).trans ?_
  refine (skip _ _ _ _ _ (by norm_num)).trans ?_
  refine (skip _ _ _ _ _ (by norm_num)).trans ?_
  refine (skip _ _ _ _ _ (by norm_num)).trans ?_
  exact View.readCov_cons_toLoadRect _ _ _ _

/-- Tile 4 read back from the scratch. -/
theorem v4_at (a : Fin 64) (l : Fin 128) : (sl.v457 (F := Ideal) arg1 arg2 arg3 arg4 arg5 arg11 (h1.unread x0) (h2.unread x1) (h3.unread x2) (h4.unread x3) (h5.unread x4) k) (ix2 a l) = wB x0 x1 x2 x3 x4 (kR k 4) l a := by
  refine Eq.trans (congrFun (?_ : (sl.v457 (F := Ideal) arg1 arg2 arg3 arg4 arg5 arg11 (h1.unread x0) (h2.unread x1) (h3.unread x2) (h4.unread x3) (h5.unread x4) k) = k0_pay32 (F := Ideal) (sl.r_6 (F := Ideal) arg1 arg5 (h1.unread x0) (h5.unread x4) k) (sl.r_7 (F := Ideal) arg3 (h3.unread x2) k) (sl.r_8 (F := Ideal) arg4 (h4.unread x3) k) (sl.r_20 (F := Ideal) arg2 (h2.unread x1) k) (View.readAt (Elt Ideal) arg1.view (Rect.unit (s := S64x4096) (k0_off1 k 4#32) S64x128.size (k0_off1_inb k 4)).toLoadRect (h1.unread x0))) (ix2 a l)) (s4_at h1 h2 h3 h4 h5 x0 x1 x2 x3 x4 k a l)
  unfold sl.v457 sl.HW_arg11_8
  refine (skip _ _ _ _ _ (by norm_num)).trans ?_
  refine (skip _ _ _ _ _ (by norm_num)).trans ?_
  refine (skip _ _ _ _ _ (by norm_num)).trans ?_
  exact View.readCov_cons_toLoadRect _ _ _ _

/-- Tile 5 read back from the scratch. -/
theorem v5_at (a : Fin 64) (l : Fin 128) : (sl.v485 (F := Ideal) arg1 arg2 arg3 arg4 arg5 arg11 (h1.unread x0) (h2.unread x1) (h3.unread x2) (h4.unread x3) (h5.unread x4) k) (ix2 a l) = wB x0 x1 x2 x3 x4 (kR k 5) l a := by
  refine Eq.trans (congrFun (?_ : (sl.v485 (F := Ideal) arg1 arg2 arg3 arg4 arg5 arg11 (h1.unread x0) (h2.unread x1) (h3.unread x2) (h4.unread x3) (h5.unread x4) k) = k0_pay36 (F := Ideal) (sl.r_23 (F := Ideal) arg1 arg2 arg3 arg4 arg5 (h1.unread x0) (h2.unread x1) (h3.unread x2) (h4.unread x3) (h5.unread x4) k)) (ix2 a l)) (s5_at h1 h2 h3 h4 h5 x0 x1 x2 x3 x4 k a l)
  unfold sl.v485 sl.HW_arg11_8
  refine (skip _ _ _ _ _ (by norm_num)).trans ?_
  refine (skip _ _ _ _ _ (by norm_num)).trans ?_
  exact View.readCov_cons_toLoadRect _ _ _ _

/-- Tile 6 read back from the scratch. -/
theorem v6_at (a : Fin 64) (l : Fin 128) : (sl.v513 (F := Ideal) arg1 arg2 arg3 arg4 arg5 arg11 (h1.unread x0) (h2.unread x1) (h3.unread x2) (h4.unread x3) (h5.unread x4) k) (ix2 a l) = wB x0 x1 x2 x3 x4 (kR k 6) l a := by
  refine Eq.trans (congrFun (?_ : (sl.v513 (F := Ideal) arg1 arg2 arg3 arg4 arg5 arg11 (h1.unread x0) (h2.unread x1) (h3.unread x2) (h4.unread x3) (h5.unread x4) k) = k0_pay40 (F := Ideal) (sl.r_6 (F := Ideal) arg1 arg5 (h1.unread x0) (h5.unread x4) k) (sl.r_7 (F := Ideal) arg3 (h3.unread x2) k) (sl.r_8 (F := Ideal) arg4 (h4.unread x3) k) (View.readAt (Elt Ideal) arg2.view (Rect.unit (s := S16x4096) (k0_off3 k 6#32) S16x128.size (k0_off3_inb k 6)).toLoadRect (h2.unread x1)) (View.readAt (Elt Ideal) arg1.view (Rect.unit (s := S64x4096) (k0_off1 k 6#32) S64x128.size (k0_off1_inb k 6)).toLoadRect (h1.unread x0))) (ix2 a l)) (s6_at h1 h2 h3 h4 h5 x0 x1 x2 x3 x4 k a l)
  unfold sl.v513 sl.HW_arg11_8
  refine (skip _ _ _ _ _ (by norm_num)).trans ?_
  exact View.readCov_cons_toLoadRect _ _ _ _

/-- Tile 7 read back from the scratch. -/
theorem v7_at (a : Fin 64) (l : Fin 128) : (sl.v541 (F := Ideal) arg1 arg2 arg3 arg4 arg5 arg11 (h1.unread x0) (h2.unread x1) (h3.unread x2) (h4.unread x3) (h5.unread x4) k) (ix2 a l) = wB x0 x1 x2 x3 x4 (kR k 7) l a := by
  refine Eq.trans (congrFun (?_ : (sl.v541 (F := Ideal) arg1 arg2 arg3 arg4 arg5 arg11 (h1.unread x0) (h2.unread x1) (h3.unread x2) (h4.unread x3) (h5.unread x4) k) = k0_pay46 (F := Ideal) (sl.r_6 (F := Ideal) arg1 arg5 (h1.unread x0) (h5.unread x4) k) (sl.r_8 (F := Ideal) arg4 (h4.unread x3) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0))) (ix2 a l)) (s7_at h1 h2 h3 h4 h5 x0 x1 x2 x3 x4 k a l)
  unfold sl.v541 sl.HW_arg11_8
  exact View.readCov_cons_toLoadRect _ _ _ _

/-- The specification's code from its parts. -/
theorem qB_of (t : Fin 8) (a : Fin 64) (l : Fin 128) {w mn iv : EReal} {rd : BitVec 32} (hw : w = wB x0 x1 x2 x3 x4 (kR k t) l a)
    (hm : mn = mnV (wB x0 x1 x2 x3 x4 (kR k t) l)) (hi : iv = invV (wB x0 x1 x2 x3 x4 (kR k t) l)) (hr : rd = x5 (ix2 a (cIx (kR k t) l))) :
    qV w mn iv rd = qB x0 x1 x2 x3 x4 x5 (kR k t) l a := by
  subst hw hm hi hr; rfl

/-- Tile 0: the new code. -/
theorem c0_at (a : Fin 64) (l : Fin 128) :
    k0_pay52 (F := Ideal) (sl.r_32 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 0#32) S64x128.size (k0_off1_inb k 0)).toLoadRect (h6.unread x5)) (ix2 a l) = qB x0 x1 x2 x3 x4 x5 (kR k 0) l a :=
  (Pay.q0 _ _ _ _ _ _ _ _ _ _ _ _ _ _ _ _ _ _ _ _ _ a l).trans (qB_of x0 x1 x2 x3 x4 x5 k 0 a l (v0_at h1 h2 h3 h4 h5 arg11 x0 x1 x2 x3 x4 k a l)
    (r30_at h1 h2 h3 h4 h5 x0 x1 x2 x3 x4 k 0 l) (r31_at h1 h2 h3 h4 h5 x0 x1 x2 x3 x4 k 0 l) (ld1 h6 x5 k 0 _ rfl _ a l))

/-- Tile 1: the new code. -/
theorem c1_at (a : Fin 64) (l : Fin 128) :
    (sl.r_33 (F := Ideal) arg1 arg2 arg3 arg4 arg5 arg6 arg11 (h1.unread x0) (h2.unread x1) (h3.unread x2) (h4.unread x3) (h5.unread x4) (h6.unread x5) k) (ix2 a l) = qB x0 x1 x2 x3 x4 x5 (kR k 1) l a :=
  (Pay.q1 _ _ _ _ a l).trans (qB_of x0 x1 x2 x3 x4 x5 k 1 a l (v1_at h1 h2 h3 h4 h5 arg11 x0 x1 x2 x3 x4 k a l)
    (r30_at h1 h2 h3 h4 h5 x0 x1 x2 x3 x4 k 1 l) (r31_at h1 h2 h3 h4 h5 x0 x1 x2 x3 x4 k 1 l) (ld1 h6 x5 k 1 _ rfl _ a l))

/-- Tile 2: the new code. -/
theorem c2_at (a : Fin 64) (l : Fin 128) :
    k0_pay54 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v401 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 2#32) S64x128.size (k0_off1_inb k 2)).toLoadRect (h6.unread x5)) (ix2 a l) = qB x0 x1 x2 x3 x4 x5 (kR k 2) l a :=
  (Pay.q2 _ _ _ _ a l).trans (qB_of x0 x1 x2 x3 x4 x5 k 2 a l (v2_at h1 h2 h3 h4 h5 arg11 x0 x1 x2 x3 x4 k a l)
    (r30_at h1 h2 h3 h4 h5 x0 x1 x2 x3 x4 k 2 l) (r31_at h1 h2 h3 h4 h5 x0 x1 x2 x3 x4 k 2 l) (ld1 h6 x5 k 2 _ rfl _ a l))

/-- Tile 3: the new code. -/
theorem c3_at (a : Fin 64) (l : Fin 128) :
    k0_pay57 (F := Ideal) (sl.r_34 (F := Ideal) arg1 arg2 arg3 arg4 arg5 arg11 (h1.unread x0) (h2.unread x1) (h3.unread x2) (h4.unread x3) (h5.unread x4) k) (sl.r_35 (F := Ideal) arg6 (h6.unread x5) k) 8#32 (ix2 a l) = qB x0 x1 x2 x3 x4 x5 (kR k 3) l a :=
  (Pay.q3 _ _ _ _ a l).trans (qB_of x0 x1 x2 x3 x4 x5 k 3 a l (v3_at h1 h2 h3 h4 h5 arg11 x0 x1 x2 x3 x4 k a l)
    (r30_at h1 h2 h3 h4 h5 x0 x1 x2 x3 x4 k 3 l) (r31_at h1 h2 h3 h4 h5 x0 x1 x2 x3 x4 k 3 l) (ld1 h6 x5 k 3 _ rfl _ a l))

/-- Tile 4: the new code. -/
theorem c4_at (a : Fin 64) (l : Fin 128) :
    k0_pay58 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v457 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 4#32) S64x128.size (k0_off1_inb k 4)).toLoadRect (h6.unread x5)) (ix2 a l) = qB x0 x1 x2 x3 x4 x5 (kR k 4) l a :=
  (Pay.q4 _ _ _ _ a l).trans (qB_of x0 x1 x2 x3 x4 x5 k 4 a l (v4_at h1 h2 h3 h4 h5 arg11 x0 x1 x2 x3 x4 k a l)
    (r30_at h1 h2 h3 h4 h5 x0 x1 x2 x3 x4 k 4 l) (r31_at h1 h2 h3 h4 h5 x0 x1 x2 x3 x4 k 4 l) (ld1 h6 x5 k 4 _ rfl _ a l))

/-- Tile 5: the new code. -/
theorem c5_at (a : Fin 64) (l : Fin 128) :
    k0_pay59 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v485 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 5#32) S64x128.size (k0_off1_inb k 5)).toLoadRect (h6.unread x5)) (ix2 a l) = qB x0 x1 x2 x3 x4 x5 (kR k 5) l a :=
  (Pay.q5 _ _ _ _ a l).trans (qB_of x0 x1 x2 x3 x4 x5 k 5 a l (v5_at h1 h2 h3 h4 h5 arg11 x0 x1 x2 x3 x4 k a l)
    (r30_at h1 h2 h3 h4 h5 x0 x1 x2 x3 x4 k 5 l) (r31_at h1 h2 h3 h4 h5 x0 x1 x2 x3 x4 k 5 l) (ld1 h6 x5 k 5 _ rfl _ a l))

/-- Tile 6: the new code. -/
theorem c6_at (a : Fin 64) (l : Fin 128) :
    k0_pay62 (F := Ideal) (sl.r_36 (F := Ideal) arg1 arg2 arg3 arg4 arg5 arg11 (h1.unread x0) (h2.unread x1) (h3.unread x2) (h4.unread x3) (h5.unread x4) k) (sl.r_37 (F := Ideal) arg6 (h6.unread x5) k) (ix2 a l) = qB x0 x1 x2 x3 x4 x5 (kR k 6) l a :=
  (Pay.q6 _ _ _ _ a l).trans (qB_of x0 x1 x2 x3 x4 x5 k 6 a l (v6_at h1 h2 h3 h4 h5 arg11 x0 x1 x2 x3 x4 k a l)
    (r30_at h1 h2 h3 h4 h5 x0 x1 x2 x3 x4 k 6 l) (r31_at h1 h2 h3 h4 h5 x0 x1 x2 x3 x4 k 6 l) (ld1 h6 x5 k 6 _ rfl _ a l))

/-- Tile 7: the new code. -/
theorem c7_at (a : Fin 64) (l : Fin 128) :
    k0_pay1 (F := Ideal) (sl.cst_174 (F := Ideal)) (sl.r_38 (F := Ideal) arg1 arg2 arg3 arg4 arg5 arg6 arg11 (h1.unread x0) (h2.unread x1) (h3.unread x2) (h4.unread x3) (h5.unread x4) (h6.unread x5) k) (ix2 a l) = qB x0 x1 x2 x3 x4 x5 (kR k 7) l a :=
  (Pay.q7 _ _ _ _ a l).trans (qB_of x0 x1 x2 x3 x4 x5 k 7 a l (v7_at h1 h2 h3 h4 h5 arg11 x0 x1 x2 x3 x4 k a l)
    (r30_at h1 h2 h3 h4 h5 x0 x1 x2 x3 x4 k 7 l) (r31_at h1 h2 h3 h4 h5 x0 x1 x2 x3 x4 k 7 l) (ld1 h6 x5 k 7 _ rfl _ a l))

end Cert.KernelIdeal.Trip
-- ==== Proof.Loop.lean ====
/-
  The kernel's counted loop against the block's specification.

  Each trip stores eight tiles of codes and eight rows of scales, biases and momenta. Before trip `k` the outputs read the
  specification on the columns of the trips before; after the last trip they read it everywhere.
-/
module

public import proofs.«01_k».proof.Proof.Trip
public import Idealize.ShloMosaic.Lib.Writes

@[expose] public section

set_option maxRecDepth 16384

noncomputable section

namespace Cert.KernelIdeal.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Column Cert.KernelIdeal.Block Cert.KernelIdeal.Trip
open Cert.KernelIdeal.Gen.trip_k0_t1

local notation "𝕄I" => MT nD τ sig Unit (Elt Ideal) ℕ (UR sig nD τ) ℕ

/-! ## A trip's stores, read back -/

/-- Where a tile's entry lies. -/
theorem emb1 (k : Fin k0_t1_loop.trips) (t : Fin 8) (n : BitVec 32) (hn : n = BitVec.ofNat 32 t.val)
    (inb : ∀ a, k0_off1 k n a + S64x128.size a ≤ S64x4096.size a) (a : Fin 64) (l : Fin 128) :
    (Rect.unit (s := S64x4096) (k0_off1 k n) S64x128.size inb).emb (ix2 a l) = ix2 a (cIx (kR k t) l) := by
  subst hn
  refine funext fun b => Fin.ext ?_
  refine (Rect.idx_unit_val _ _ _ _ b).trans ?_
  refine (congrArg (· + _) (congrFun (k0_off1_eq k t) b)).trans ?_
  match b with
  | ⟨0, _⟩ => show 0 + a.val = a.val; omega
  | ⟨1, _⟩ => show 1024 * k.val + 128 * t.val + l.val = 128 * (8 * k.val + t.val) + l.val; omega

theorem mem1 (k : Fin k0_t1_loop.trips) (t : Fin 8) (n : BitVec 32) (hn : n = BitVec.ofNat 32 t.val)
    (inb : ∀ a, k0_off1 k n a + S64x128.size a ≤ S64x4096.size a) (y : S64x4096.Idx) :
    y ∈ (Rect.unit (s := S64x4096) (k0_off1 k n) S64x128.size inb).set
      ↔ 1024 * k.val + 128 * t.val ≤ (y 1).val ∧ (y 1).val < 1024 * k.val + 128 * t.val + 128 := by
  subst hn
  rw [Rect.mem_set_unit]
  have e0 : k0_off1 k (BitVec.ofNat 32 t.val) (0 : Fin 2) = 0 := congrFun (k0_off1_eq k t) (0 : Fin 2)
  have e1 : k0_off1 k (BitVec.ofNat 32 t.val) (1 : Fin 2) = 1024 * k.val + 128 * t.val := congrFun (k0_off1_eq k t) (1 : Fin 2)
  constructor
  · intro h
    have h1 := h (1 : Fin 2)
    rw [e1] at h1
    exact h1
  · intro h b
    match b with
    | ⟨0, _⟩ =>
      show k0_off1 k (BitVec.ofNat 32 t.val) (0 : Fin 2) ≤ (y 0).val ∧ (y 0).val < k0_off1 k (BitVec.ofNat 32 t.val) (0 : Fin 2) + 64
      rw [e0]
      have : (y 0).val < 64 := (y 0).isLt
      omega
    | ⟨1, _⟩ =>
      show k0_off1 k (BitVec.ofNat 32 t.val) (1 : Fin 2) ≤ (y 1).val ∧ (y 1).val < k0_off1 k (BitVec.ofNat 32 t.val) (1 : Fin 2) + 128
      rw [e1]
      exact h

theorem emb2 (k : Fin k0_t1_loop.trips) (inb : ∀ a, k0_off2 k a + S8x128.size a ≤ S32x128.size a) (r : Fin 8) (l : Fin 128) :
    (Rect.unit (s := S32x128) (k0_off2 k) S8x128.size inb).emb (ix2 r l) = ix2 (kR k r) l := by
  refine funext fun b => Fin.ext ?_
  refine (Rect.idx_unit_val _ _ _ _ b).trans ?_
  refine (congrArg (· + _) (congrFun (k0_off2_eq k) b)).trans ?_
  match b with
  | ⟨0, _⟩ => rfl
  | ⟨1, _⟩ => show 0 + l.val = l.val; omega

theorem mem2 (k : Fin k0_t1_loop.trips) (inb : ∀ a, k0_off2 k a + S8x128.size a ≤ S32x128.size a) (y : S32x128.Idx) :
    y ∈ (Rect.unit (s := S32x128) (k0_off2 k) S8x128.size inb).set ↔ 8 * k.val ≤ (y 0).val ∧ (y 0).val < 8 * k.val + 8 := by
  rw [Rect.mem_set_unit]
  have e0 : k0_off2 k (0 : Fin 2) = 8 * k.val := congrFun (k0_off2_eq k) (0 : Fin 2)
  have e1 : k0_off2 k (1 : Fin 2) = 0 := congrFun (k0_off2_eq k) (1 : Fin 2)
  constructor
  · intro h
    have h1 := h (0 : Fin 2)
    rw [e0] at h1
    exact h1
  · intro h b
    match b with
    | ⟨0, _⟩ =>
      show k0_off2 k (0 : Fin 2) ≤ (y 0).val ∧ (y 0).val < k0_off2 k (0 : Fin 2) + 8
      rw [e0]
      exact h
    | ⟨1, _⟩ =>
      show k0_off2 k (1 : Fin 2) ≤ (y 1).val ∧ (y 1).val < k0_off2 k (1 : Fin 2) + 128
      rw [e1]
      have : (y 1).val < 128 := (y 1).isLt
      omega

theorem ix2_eta64 (x : S64x128.Idx) : x = ix2 (x 0) (x 1) := by
  funext b
  match b with
  | ⟨0, _⟩ => rfl
  | ⟨1, _⟩ => rfl

theorem ix2_eta8 (x : S8x128.Idx) : x = ix2 (x 0) (x 1) := by
  funext b
  match b with
  | ⟨0, _⟩ => rfl
  | ⟨1, _⟩ => rfl

/-- A trip's eight tiles of codes extend what the trips before left. -/
theorem step_tiles (v : View sig .tc .vmem S64x4096 .i8) (f : v.ty.Contents (Elt Ideal)) (k : Fin k0_t1_loop.trips)
    (G : Vec Ideal S64x4096 .i8) (w0 w1 w2 w3 w4 w5 w6 w7 : Vec Ideal S64x128 .i8)
    (e0 : ∀ a l, w0 (ix2 a l) = G (ix2 a (cIx (kR k 0) l)))
    (e1 : ∀ a l, w1 (ix2 a l) = G (ix2 a (cIx (kR k 1) l)))
    (e2 : ∀ a l, w2 (ix2 a l) = G (ix2 a (cIx (kR k 2) l)))
    (e3 : ∀ a l, w3 (ix2 a l) = G (ix2 a (cIx (kR k 3) l)))
    (e4 : ∀ a l, w4 (ix2 a l) = G (ix2 a (cIx (kR k 4) l)))
    (e5 : ∀ a l, w5 (ix2 a l) = G (ix2 a (cIx (kR k 5) l)))
    (e6 : ∀ a l, w6 (ix2 a l) = G (ix2 a (cIx (kR k 6) l)))
    (e7 : ∀ a l, w7 (ix2 a l) = G (ix2 a (cIx (kR k 7) l)))
    (hf : ∀ y, (y 1).val < 1024 * k.val → v.read (Elt Ideal) f y = G y) (y : S64x4096.Idx) (hy : (y 1).val < 1024 * (k.val + 1)) :
    v.read (Elt Ideal) (v.writes (Elt Ideal) f [⟨Rect.unit (s := S64x4096) (k0_off1 k 7#32) S64x128.size (k0_off1_inb k 7), w7⟩,
      ⟨Rect.unit (s := S64x4096) (k0_off1 k 6#32) S64x128.size (k0_off1_inb k 6), w6⟩,
      ⟨Rect.unit (s := S64x4096) (k0_off1 k 5#32) S64x128.size (k0_off1_inb k 5), w5⟩,
      ⟨Rect.unit (s := S64x4096) (k0_off1 k 4#32) S64x128.size (k0_off1_inb k 4), w4⟩,
      ⟨Rect.unit (s := S64x4096) (k0_off1 k 3#32) S64x128.size (k0_off1_inb k 3), w3⟩,
      ⟨Rect.unit (s := S64x4096) (k0_off1 k 2#32) S64x128.size (k0_off1_inb k 2), w2⟩,
      ⟨Rect.unit (s := S64x4096) (k0_off1 k 1#32) S64x128.size (k0_off1_inb k 1), w1⟩,
      ⟨Rect.unit (s := S64x4096) (k0_off1 k 0#32) S64x128.size (k0_off1_inb k 0), w0⟩]) y = G y := by
  by_cases hk : (y 1).val < 1024 * k.val
  · rw [View.read_writes_apply_of_forall_not_mem]
    · exact hf y hk
    · intro p hp
      simp only [List.mem_cons, List.not_mem_nil, _root_.or_false] at hp
      rcases hp with rfl | rfl | rfl | rfl | rfl | rfl | rfl | rfl
      · exact fun h => by have h' := (mem1 k 7 _ rfl (k0_off1_inb k 7) y).mp h; omega
      · exact fun h => by have h' := (mem1 k 6 _ rfl (k0_off1_inb k 6) y).mp h; omega
      · exact fun h => by have h' := (mem1 k 5 _ rfl (k0_off1_inb k 5) y).mp h; omega
      · exact fun h => by have h' := (mem1 k 4 _ rfl (k0_off1_inb k 4) y).mp h; omega
      · exact fun h => by have h' := (mem1 k 3 _ rfl (k0_off1_inb k 3) y).mp h; omega
      · exact fun h => by have h' := (mem1 k 2 _ rfl (k0_off1_inb k 2) y).mp h; omega
      · exact fun h => by have h' := (mem1 k 1 _ rfl (k0_off1_inb k 1) y).mp h; omega
      · exact fun h => by have h' := (mem1 k 0 _ rfl (k0_off1_inb k 0) y).mp h; omega
  · refine View.read_writes_apply_of_pieces v f G _ ?_ y ?_
    · intro p hp
      simp only [List.mem_cons, List.not_mem_nil, _root_.or_false] at hp
      rcases hp with rfl | rfl | rfl | rfl | rfl | rfl | rfl | rfl
      · intro x
        obtain ⟨a, l, rfl⟩ : ∃ (a : Fin 64) (l : Fin 128), x = ix2 a l := ⟨x 0, x 1, ix2_eta64 x⟩
        exact (e7 a l).trans (congrArg G (emb1 k 7 _ rfl (k0_off1_inb k 7) a l).symm)
      · intro x
        obtain ⟨a, l, rfl⟩ : ∃ (a : Fin 64) (l : Fin 128), x = ix2 a l := ⟨x 0, x 1, ix2_eta64 x⟩
        exact (e6 a l).trans (congrArg G (emb1 k 6 _ rfl (k0_off1_inb k 6) a l).symm)
      · intro x
        obtain ⟨a, l, rfl⟩ : ∃ (a : Fin 64) (l : Fin 128), x = ix2 a l := ⟨x 0, x 1, ix2_eta64 x⟩
        exact (e5 a l).trans (congrArg G (emb1 k 5 _ rfl (k0_off1_inb k 5) a l).symm)
      · intro x
        obtain ⟨a, l, rfl⟩ : ∃ (a : Fin 64) (l : Fin 128), x = ix2 a l := ⟨x 0, x 1, ix2_eta64 x⟩
        exact (e4 a l).trans (congrArg G (emb1 k 4 _ rfl (k0_off1_inb k 4) a l).symm)
      · intro x
        obtain ⟨a, l, rfl⟩ : ∃ (a : Fin 64) (l : Fin 128), x = ix2 a l := ⟨x 0, x 1, ix2_eta64 x⟩
        exact (e3 a l).trans (congrArg G (emb1 k 3 _ rfl (k0_off1_inb k 3) a l).symm)
      · intro x
        obtain ⟨a, l, rfl⟩ : ∃ (a : Fin 64) (l : Fin 128), x = ix2 a l := ⟨x 0, x 1, ix2_eta64 x⟩
        exact (e2 a l).trans (congrArg G (emb1 k 2 _ rfl (k0_off1_inb k 2) a l).symm)
      · intro x
        obtain ⟨a, l, rfl⟩ : ∃ (a : Fin 64) (l : Fin 128), x = ix2 a l := ⟨x 0, x 1, ix2_eta64 x⟩
        exact (e1 a l).trans (congrArg G (emb1 k 1 _ rfl (k0_off1_inb k 1) a l).symm)
      · intro x
        obtain ⟨a, l, rfl⟩ : ∃ (a : Fin 64) (l : Fin 128), x = ix2 a l := ⟨x 0, x 1, ix2_eta64 x⟩
        exact (e0 a l).trans (congrArg G (emb1 k 0 _ rfl (k0_off1_inb k 0) a l).symm)
    · have hc : ∃ t : Fin 8, 1024 * k.val + 128 * t.val ≤ (y 1).val ∧ (y 1).val < 1024 * k.val + 128 * t.val + 128 :=
        ⟨⟨((y 1).val - 1024 * k.val) / 128, by omega⟩, by dsimp only; omega, by dsimp only; omega⟩
      obtain ⟨t, ht⟩ := hc
      match t, ht with
      | ⟨0, _⟩, ht => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem1 k 0 _ rfl (k0_off1_inb k 0) y).mpr ht⟩
      | ⟨1, _⟩, ht => exact ⟨_, List.mem_cons_of_mem _ (List.mem_cons_of_mem _ (List.mem_cons_of_mem _ (List.mem_cons_of_mem _ (List.mem_cons_of_mem _ (List.mem_cons_of_mem _ (List.mem_cons_self)))))), (mem1 k 1 _ rfl (k0_off1_inb k 1) y).mpr ht⟩
      | ⟨2, _⟩, ht => exact ⟨_, List.mem_cons_of_mem _ (List.mem_cons_of_mem _ (List.mem_cons_of_mem _ (List.mem_cons_of_mem _ (List.mem_cons_of_mem _ (List.mem_cons_self))))), (mem1 k 2 _ rfl (k0_off1_inb k 2) y).mpr ht⟩
      | ⟨3, _⟩, ht => exact ⟨_, List.mem_cons_of_mem _ (List.mem_cons_of_mem _ (List.mem_cons_of_mem _ (List.mem_cons_of_mem _ (List.mem_cons_self)))), (mem1 k 3 _ rfl (k0_off1_inb k 3) y).mpr ht⟩
      | ⟨4, _⟩, ht => exact ⟨_, List.mem_cons_of_mem _ (List.mem_cons_of_mem _ (List.mem_cons_of_mem _ (List.mem_cons_self))), (mem1 k 4 _ rfl (k0_off1_inb k 4) y).mpr ht⟩
      | ⟨5, _⟩, ht => exact ⟨_, List.mem_cons_of_mem _ (List.mem_cons_of_mem _ (List.mem_cons_self)), (mem1 k 5 _ rfl (k0_off1_inb k 5) y).mpr ht⟩
      | ⟨6, _⟩, ht => exact ⟨_, List.mem_cons_of_mem _ (List.mem_cons_self), (mem1 k 6 _ rfl (k0_off1_inb k 6) y).mpr ht⟩
      | ⟨7, _⟩, ht => exact ⟨_, List.mem_cons_self, (mem1 k 7 _ rfl (k0_off1_inb k 7) y).mpr ht⟩

/-- A trip's eight rows extend what the trips before left. -/
theorem step_rows (v : View sig .tc .vmem S32x128 .f32) (f : v.ty.Contents (Elt Ideal)) (k : Fin k0_t1_loop.trips)
    (G : Vec Ideal S32x128 .f32) (w : Vec Ideal S8x128 .f32) (e : ∀ r l, w (ix2 r l) = G (ix2 (kR k r) l))
    (hf : ∀ y, (y 0).val < 8 * k.val → v.read (Elt Ideal) f y = G y) (y : S32x128.Idx) (hy : (y 0).val < 8 * (k.val + 1)) :
    v.read (Elt Ideal) (v.writes (Elt Ideal) f [⟨Rect.unit (s := S32x128) (k0_off2 k) S8x128.size (k0_off2_inb k), w⟩]) y = G y := by
  by_cases hk : (y 0).val < 8 * k.val
  · rw [View.read_writes_apply_of_forall_not_mem]
    · exact hf y hk
    · intro p hp
      simp only [List.mem_cons, List.not_mem_nil, _root_.or_false] at hp
      subst hp
      exact fun h => by have h' := (mem2 k (k0_off2_inb k) y).mp h; omega
  · refine View.read_writes_apply_of_pieces v f G _ ?_ y ?_
    · intro p hp
      simp only [List.mem_cons, List.not_mem_nil, _root_.or_false] at hp
      subst hp
      intro x
      obtain ⟨r, l, rfl⟩ : ∃ (r : Fin 8) (l : Fin 128), x = ix2 r l := ⟨x 0, x 1, ix2_eta8 x⟩
      exact (e r l).trans (congrArg G (emb2 k (k0_off2_inb k) r l).symm)
    · exact ⟨_, List.mem_cons_self, (mem2 k (k0_off2_inb k) y).mpr (by omega)⟩

variable (c : Dev nD) (i : grid0.Coords)

  (arg1 : Memref sig .tc .vmem S64x4096 .f32) (h1 : arg1.IsWhole)
  (arg2 : Memref sig .tc .vmem S16x4096 .i32) (h2 : arg2.IsWhole)
  (arg3 : Memref sig .tc .vmem S32x128 .f32) (h3 : arg3.IsWhole)
  (arg4 : Memref sig .tc .vmem S32x128 .f32) (h4 : arg4.IsWhole)
  (arg5 : Memref sig .tc .vmem S32x128 .f32) (h5 : arg5.IsWhole)
  (arg6 : Memref sig .tc .vmem S64x4096 .i32) (h6 : arg6.IsWhole)
  (arg7 : Memref sig .tc .vmem S64x4096 .i8) (h7 : arg7.IsWhole)
  (arg8 : Memref sig .tc .vmem S32x128 .f32) (h8 : arg8.IsWhole)
  (arg9 : Memref sig .tc .vmem S32x128 .f32) (h9 : arg9.IsWhole)
  (arg10 : Memref sig .tc .vmem S32x128 .f32) (h10 : arg10.IsWhole)
  (arg11 : Memref sig .tc .vmem S64x1024 .f32) (h11 : arg11.IsWhole)
  (x0 : Vec Ideal S64x4096 .f32) (x1 : Vec Ideal S16x4096 .i32) (x2 x3 x4 : Vec Ideal S32x128 .f32) (x5 : Vec Ideal S64x4096 .i32)

/-! ## The trip's pieces -/

set_option maxHeartbeats 4000000 in
theorem pieces (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) :
    (trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).1 f7 f8 f9 f10 f11 = [⟨Rect.unit (s := S64x4096) (k0_off1 k 7#32) S64x128.size (k0_off1_inb k 7), k0_pay1 (F := Ideal) (sl.cst_174 (F := Ideal)) (sl.r_38 (F := Ideal) arg1 arg2 arg3 arg4 arg5 arg6 arg11 (h1.unread x0) (h2.unread x1) (h3.unread x2) (h4.unread x3) (h5.unread x4) (h6.unread x5) k)⟩,
      ⟨Rect.unit (s := S64x4096) (k0_off1 k 6#32) S64x128.size (k0_off1_inb k 6), k0_pay62 (F := Ideal) (sl.r_36 (F := Ideal) arg1 arg2 arg3 arg4 arg5 arg11 (h1.unread x0) (h2.unread x1) (h3.unread x2) (h4.unread x3) (h5.unread x4) k) (sl.r_37 (F := Ideal) arg6 (h6.unread x5) k)⟩,
      ⟨Rect.unit (s := S64x4096) (k0_off1 k 5#32) S64x128.size (k0_off1_inb k 5), k0_pay59 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v485 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 5#32) S64x128.size (k0_off1_inb k 5)).toLoadRect (h6.unread x5))⟩,
      ⟨Rect.unit (s := S64x4096) (k0_off1 k 4#32) S64x128.size (k0_off1_inb k 4), k0_pay58 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v457 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 4#32) S64x128.size (k0_off1_inb k 4)).toLoadRect (h6.unread x5))⟩,
      ⟨Rect.unit (s := S64x4096) (k0_off1 k 3#32) S64x128.size (k0_off1_inb k 3), k0_pay57 (F := Ideal) (sl.r_34 (F := Ideal) arg1 arg2 arg3 arg4 arg5 arg11 (h1.unread x0) (h2.unread x1) (h3.unread x2) (h4.unread x3) (h5.unread x4) k) (sl.r_35 (F := Ideal) arg6 (h6.unread x5) k) 8#32⟩,
      ⟨Rect.unit (s := S64x4096) (k0_off1 k 2#32) S64x128.size (k0_off1_inb k 2), k0_pay54 (F := Ideal) (sl.r_30 (F := Ideal) arg1 arg2 arg3 arg4 arg5 (h1.unread x0) (h2.unread x1) (h3.unread x2) (h4.unread x3) (h5.unread x4) k) (sl.r_31 (F := Ideal) arg1 arg2 arg3 arg4 arg5 (h1.unread x0) (h2.unread x1) (h3.unread x2) (h4.unread x3) (h5.unread x4) k) (sl.v401 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 2#32) S64x128.size (k0_off1_inb k 2)).toLoadRect (h6.unread x5))⟩,
      ⟨Rect.unit (s := S64x4096) (k0_off1 k 1#32) S64x128.size (k0_off1_inb k 1), (sl.r_33 (F := Ideal) arg1 arg2 arg3 arg4 arg5 arg6 arg11 (h1.unread x0) (h2.unread x1) (h3.unread x2) (h4.unread x3) (h5.unread x4) (h6.unread x5) k)⟩,
      ⟨Rect.unit (s := S64x4096) (k0_off1 k 0#32) S64x128.size (k0_off1_inb k 0), k0_pay52 (F := Ideal) (sl.r_32 (F := Ideal) arg1 arg2 arg3 arg4 arg5 arg11 (h1.unread x0) (h2.unread x1) (h3.unread x2) (h4.unread x3) (h5.unread x4) k) (View.readAt (Elt Ideal) arg6.view (Rect.unit (s := S64x4096) (k0_off1 k 0#32) S64x128.size (k0_off1_inb k 0)).toLoadRect (h6.unread x5))⟩]
    ∧ (trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.1 f7 f8 f9 f10 f11 = [⟨Rect.unit (s := S32x128) (k0_off2 k) S8x128.size (k0_off2_inb k), k0_pay49 (F := Ideal) (sl.r_6 (F := Ideal) arg1 arg5 (h1.unread x0) (h5.unread x4) k) (sl.r_8 (F := Ideal) arg4 (h4.unread x3) k) (sl.r_9 (F := Ideal) arg1 arg2 arg3 arg4 arg5 (h1.unread x0) (h2.unread x1) (h3.unread x2) (h4.unread x3) (h5.unread x4) k) (sl.r_10 (F := Ideal) arg1 arg2 arg3 arg4 arg5 (h1.unread x0) (h2.unread x1) (h3.unread x2) (h4.unread x3) (h5.unread x4) k) (sl.r_11 (F := Ideal) arg1 arg2 arg3 arg4 arg5 (h1.unread x0) (h2.unread x1) (h3.unread x2) (h4.unread x3) (h5.unread x4) k) (sl.r_12 (F := Ideal) arg1 arg2 arg3 arg4 arg5 (h1.unread x0) (h2.unread x1) (h3.unread x2) (h4.unread x3) (h5.unread x4) k) (sl.r_16 (F := Ideal) arg1 arg2 arg3 arg4 arg5 (h1.unread x0) (h2.unread x1) (h3.unread x2) (h4.unread x3) (h5.unread x4) k) (sl.r_17 (F := Ideal) arg1 arg2 arg3 arg4 arg5 (h1.unread x0) (h2.unread x1) (h3.unread x2) (h4.unread x3) (h5.unread x4) k) (sl.r_18 (F := Ideal) arg1 arg2 arg3 arg4 arg5 (h1.unread x0) (h2.unread x1) (h3.unread x2) (h4.unread x3) (h5.unread x4) k) (sl.r_19 (F := Ideal) arg1 arg2 arg3 arg4 arg5 (h1.unread x0) (h2.unread x1) (h3.unread x2) (h4.unread x3) (h5.unread x4) k) (sl.r_21 (F := Ideal) arg1 arg2 arg3 arg4 arg5 (h1.unread x0) (h2.unread x1) (h3.unread x2) (h4.unread x3) (h5.unread x4) k) (sl.r_22 (F := Ideal) arg1 arg2 arg3 arg4 arg5 (h1.unread x0) (h2.unread x1) (h3.unread x2) (h4.unread x3) (h5.unread x4) k) (sl.r_24 (F := Ideal) arg1 arg2 arg3 arg4 arg5 (h1.unread x0) (h2.unread x1) (h3.unread x2) (h4.unread x3) (h5.unread x4) k) (sl.r_25 (F := Ideal) arg1 arg2 arg3 arg4 arg5 (h1.unread x0) (h2.unread x1) (h3.unread x2) (h4.unread x3) (h5.unread x4) k) (sl.r_26 (F := Ideal) arg1 arg2 arg3 arg4 arg5 (h1.unread x0) (h2.unread x1) (h3.unread x2) (h4.unread x3) (h5.unread x4) k) (sl.r_27 (F := Ideal) arg1 arg2 arg3 arg4 arg5 (h1.unread x0) (h2.unread x1) (h3.unread x2) (h4.unread x3) (h5.unread x4) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0))⟩]
    ∧ (trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.1 f7 f8 f9 f10 f11 = [⟨Rect.unit (s := S32x128) (k0_off2 k) S8x128.size (k0_off2_inb k), k0_pay47 (F := Ideal) (sl.r_6 (F := Ideal) arg1 arg5 (h1.unread x0) (h5.unread x4) k) (sl.r_8 (F := Ideal) arg4 (h4.unread x3) k) (sl.r_9 (F := Ideal) arg1 arg2 arg3 arg4 arg5 (h1.unread x0) (h2.unread x1) (h3.unread x2) (h4.unread x3) (h5.unread x4) k) (sl.r_11 (F := Ideal) arg1 arg2 arg3 arg4 arg5 (h1.unread x0) (h2.unread x1) (h3.unread x2) (h4.unread x3) (h5.unread x4) k) (sl.r_16 (F := Ideal) arg1 arg2 arg3 arg4 arg5 (h1.unread x0) (h2.unread x1) (h3.unread x2) (h4.unread x3) (h5.unread x4) k) (sl.r_18 (F := Ideal) arg1 arg2 arg3 arg4 arg5 (h1.unread x0) (h2.unread x1) (h3.unread x2) (h4.unread x3) (h5.unread x4) k) (sl.r_21 (F := Ideal) arg1 arg2 arg3 arg4 arg5 (h1.unread x0) (h2.unread x1) (h3.unread x2) (h4.unread x3) (h5.unread x4) k) (sl.r_24 (F := Ideal) arg1 arg2 arg3 arg4 arg5 (h1.unread x0) (h2.unread x1) (h3.unread x2) (h4.unread x3) (h5.unread x4) k) (sl.r_26 (F := Ideal) arg1 arg2 arg3 arg4 arg5 (h1.unread x0) (h2.unread x1) (h3.unread x2) (h4.unread x3) (h5.unread x4) k) (sl.r_28 (F := Ideal) arg2 (h2.unread x1) k) (sl.r_29 (F := Ideal) arg3 (h3.unread x2) k) (View.readAt (Elt Ideal) arg1.view (Rect.unit (s := S64x4096) (k0_off1 k 7#32) S64x128.size (k0_off1_inb k 7)).toLoadRect (h1.unread x0))⟩]
    ∧ (trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.2.1 f7 f8 f9 f10 f11 = [⟨Rect.unit (s := S32x128) (k0_off2 k) S8x128.size (k0_off2_inb k), k0_pay8 (F := Ideal) (sl.r_4 (F := Ideal) arg5 (h5.unread x4) k) (sl.r_5 (F := Ideal) arg1 (h1.unread x0) k)⟩] := by
  delta trip_k0_t1
  exact ⟨rfl, rfl, rfl, rfl⟩

/-- The specification's codes at a trip's entry. -/
theorem S6_at (R : Fin 32) (l : Fin 128) (a : Fin 64) : S6 x0 x1 x2 x3 x4 x5 (ix2 a (cIx R l)) = qB x0 x1 x2 x3 x4 x5 R l a := by
  show qB x0 x1 x2 x3 x4 x5 (rowOf (cIx R l)) (laneOf (cIx R l)) a = _
  rw [rowOf_cIx, laneOf_cIx]

theorem step6 (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (hf : ∀ y, (y 1).val < 1024 * k.val → arg7.view.read (Elt Ideal) f7 y = S6 x0 x1 x2 x3 x4 x5 y) (y : S64x4096.Idx) (hy : (y 1).val < 1024 * (k.val + 1)) :
    arg7.view.read (Elt Ideal) (arg7.view.writes (Elt Ideal) f7 ((trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).1 f7 f8 f9 f10 f11)) y = S6 x0 x1 x2 x3 x4 x5 y := by
  rw [(pieces c i arg1 h1 arg2 h2 arg3 h3 arg4 h4 arg5 h5 arg6 h6 arg7 h7 arg8 h8 arg9 h9 arg10 h10 arg11 h11 x0 x1 x2 x3 x4 x5 k f7 f8 f9 f10 f11).1]
  refine step_tiles arg7.view f7 k _ _ _ _ _ _ _ _ _ ?_ ?_ ?_ ?_ ?_ ?_ ?_ ?_ hf y hy
  · exact fun a l => (c0_at h1 h2 h3 h4 h5 h6 arg11 x0 x1 x2 x3 x4 x5 k a l).trans (S6_at x0 x1 x2 x3 x4 x5 _ l a).symm
  · exact fun a l => (c1_at h1 h2 h3 h4 h5 h6 arg11 x0 x1 x2 x3 x4 x5 k a l).trans (S6_at x0 x1 x2 x3 x4 x5 _ l a).symm
  · exact fun a l => (c2_at h1 h2 h3 h4 h5 h6 arg11 x0 x1 x2 x3 x4 x5 k a l).trans (S6_at x0 x1 x2 x3 x4 x5 _ l a).symm
  · exact fun a l => (c3_at h1 h2 h3 h4 h5 h6 arg11 x0 x1 x2 x3 x4 x5 k a l).trans (S6_at x0 x1 x2 x3 x4 x5 _ l a).symm
  · exact fun a l => (c4_at h1 h2 h3 h4 h5 h6 arg11 x0 x1 x2 x3 x4 x5 k a l).trans (S6_at x0 x1 x2 x3 x4 x5 _ l a).symm
  · exact fun a l => (c5_at h1 h2 h3 h4 h5 h6 arg11 x0 x1 x2 x3 x4 x5 k a l).trans (S6_at x0 x1 x2 x3 x4 x5 _ l a).symm
  · exact fun a l => (c6_at h1 h2 h3 h4 h5 h6 arg11 x0 x1 x2 x3 x4 x5 k a l).trans (S6_at x0 x1 x2 x3 x4 x5 _ l a).symm
  · exact fun a l => (c7_at h1 h2 h3 h4 h5 h6 arg11 x0 x1 x2 x3 x4 x5 k a l).trans (S6_at x0 x1 x2 x3 x4 x5 _ l a).symm

theorem step7 (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (hf : ∀ y, (y 0).val < 8 * k.val → arg8.view.read (Elt Ideal) f8 y = S7 x0 x1 x2 x3 x4 y) (y : S32x128.Idx) (hy : (y 0).val < 8 * (k.val + 1)) :
    arg8.view.read (Elt Ideal) (arg8.view.writes (Elt Ideal) f8 ((trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.1 f7 f8 f9 f10 f11)) y = S7 x0 x1 x2 x3 x4 y := by
  rw [(pieces c i arg1 h1 arg2 h2 arg3 h3 arg4 h4 arg5 h5 arg6 h6 arg7 h7 arg8 h8 arg9 h9 arg10 h10 arg11 h11 x0 x1 x2 x3 x4 x5 k f7 f8 f9 f10 f11).2.1]
  exact step_rows arg8.view f8 k _ _ (fun r l => scale_at h1 h2 h3 h4 h5 x0 x1 x2 x3 x4 k r l) hf y hy

theorem step8 (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (hf : ∀ y, (y 0).val < 8 * k.val → arg9.view.read (Elt Ideal) f9 y = S8 x0 x1 x2 x3 x4 y) (y : S32x128.Idx) (hy : (y 0).val < 8 * (k.val + 1)) :
    arg9.view.read (Elt Ideal) (arg9.view.writes (Elt Ideal) f9 ((trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.1 f7 f8 f9 f10 f11)) y = S8 x0 x1 x2 x3 x4 y := by
  rw [(pieces c i arg1 h1 arg2 h2 arg3 h3 arg4 h4 arg5 h5 arg6 h6 arg7 h7 arg8 h8 arg9 h9 arg10 h10 arg11 h11 x0 x1 x2 x3 x4 x5 k f7 f8 f9 f10 f11).2.2.1]
  exact step_rows arg9.view f9 k _ _ (fun r l => bias_at h1 h2 h3 h4 h5 x0 x1 x2 x3 x4 k r l) hf y hy

theorem step9 (k : Fin k0_t1_loop.trips) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (hf : ∀ y, (y 0).val < 8 * k.val → arg10.view.read (Elt Ideal) f10 y = S9 x0 x4 y) (y : S32x128.Idx) (hy : (y 0).val < 8 * (k.val + 1)) :
    arg10.view.read (Elt Ideal) (arg10.view.writes (Elt Ideal) f10 ((trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.2.1 f7 f8 f9 f10 f11)) y = S9 x0 x4 y := by
  rw [(pieces c i arg1 h1 arg2 h2 arg3 h3 arg4 h4 arg5 h5 arg6 h6 arg7 h7 arg8 h8 arg9 h9 arg10 h10 arg11 h11 x0 x1 x2 x3 x4 x5 k f7 f8 f9 f10 f11).2.2.2]
  exact step_rows arg10.view f10 k _ _ (fun r l => st_at h1 h5 x0 x4 k r l) hf y hy

/-! ## The loop -/

theorem trips_eq : Scf.trips k0_t1_loop.lb k0_t1_loop.ub k0_t1_loop.st = 4 := by decide

/-- Before trip `k`: the inputs at their contents, the outputs reading the specification on the trips before. -/
def inv (k : ℕ) (_u : PUnit) : sProp 𝕄I :=
  iprop((arg1.view.loc (c : Thread nD τ) ↦[arg1.view.set]{fullShare} h1.unread x0)
    ∗ (arg2.view.loc (c : Thread nD τ) ↦[arg2.view.set]{fullShare} h2.unread x1)
    ∗ (arg3.view.loc (c : Thread nD τ) ↦[arg3.view.set]{fullShare} h3.unread x2)
    ∗ (arg4.view.loc (c : Thread nD τ) ↦[arg4.view.set]{fullShare} h4.unread x3)
    ∗ (arg5.view.loc (c : Thread nD τ) ↦[arg5.view.set]{fullShare} h5.unread x4)
    ∗ (arg6.view.loc (c : Thread nD τ) ↦[arg6.view.set]{fullShare} h6.unread x5)
    ∗ (∃ f, (arg7.view.loc (c : Thread nD τ) ↦[arg7.view.set]{fullShare} f) ∗ ⌜∀ y, (y 1).val < 1024 * k → arg7.view.read (Elt Ideal) f y = S6 x0 x1 x2 x3 x4 x5 y⌝)
    ∗ (∃ f, (arg8.view.loc (c : Thread nD τ) ↦[arg8.view.set]{fullShare} f) ∗ ⌜∀ y, (y 0).val < 8 * k → arg8.view.read (Elt Ideal) f y = S7 x0 x1 x2 x3 x4 y⌝)
    ∗ (∃ f, (arg9.view.loc (c : Thread nD τ) ↦[arg9.view.set]{fullShare} f) ∗ ⌜∀ y, (y 0).val < 8 * k → arg9.view.read (Elt Ideal) f y = S8 x0 x1 x2 x3 x4 y⌝)
    ∗ (∃ f, (arg10.view.loc (c : Thread nD τ) ↦[arg10.view.set]{fullShare} f) ∗ ⌜∀ y, (y 0).val < 8 * k → arg10.view.read (Elt Ideal) f y = S9 x0 x4 y⌝)
    ∗ (∃ f, (arg11.view.loc (c : Thread nD τ) ↦[arg11.view.set]{fullShare} f)))

theorem inv_step (E : Set ℕ) (k : Fin k0_t1_loop.trips) (acc : PUnit) :
    inv c arg1 h1 arg2 h2 arg3 h3 arg4 h4 arg5 h5 arg6 h6 arg7 arg8 arg9 arg10 arg11 x0 x1 x2 x3 x4 x5 k.val acc
      ⊢ wp frame (wpE (defs₀ (F := Ideal)) Variants.none (c : Thread nD τ) none) E (k0_t1_body (F := Ideal) i arg1 h1 arg2 h2 arg3 h3 arg4 h4 arg5 h5 arg6 h6 arg7 h7 arg8 h8 arg9 h9 arg10 h10 arg11 h11 k acc)
          (inv c arg1 h1 arg2 h2 arg3 h3 arg4 h4 arg5 h5 arg6 h6 arg7 arg8 arg9 arg10 arg11 x0 x1 x2 x3 x4 x5 (k.val + 1)) := by
  unfold inv
  iintro ⟨H1, H2, H3, H4, H5, H6, ⟨%f7, H7, %e7⟩, ⟨%f8, H8, %e8⟩, ⟨%f9, H9, %e9⟩, ⟨%f10, H10, %e10⟩, ⟨%f11, H11⟩⟩
  iapply (wp_wand_r Idealize.ShloMosaic.frame (wpE (defs₀ (F := Ideal)) Variants.none (c : Thread nD τ) none) E)
  isplitl [H1 H2 H3 H4 H5 H6 H7 H8 H9 H10 H11]
  · iapply ((trip_k0_t1 (F := Ideal) Variants.none c none i arg1 h1 arg2 h2 arg3 h3 arg4 h4 arg5 h5 arg6 h6 arg7 h7 arg8 h8 arg9 h9 arg10 h10 arg11 h11 (h1.unread x0) (h2.unread x1) (h3.unread x2) (h4.unread x3) (h5.unread x4) (h6.unread x5) k).2.2.2.2.2 E f7 f8 f9 f10 f11)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]
    · iexists _; isplitl [H7]; · iexact H7
      ipureintro; exact step6 c i arg1 h1 arg2 h2 arg3 h3 arg4 h4 arg5 h5 arg6 h6 arg7 h7 arg8 h8 arg9 h9 arg10 h10 arg11 h11 x0 x1 x2 x3 x4 x5 k f7 f8 f9 f10 f11 e7
    isplitl [H8]
    · iexists _; isplitl [H8]; · iexact H8
      ipureintro; exact step7 c i arg1 h1 arg2 h2 arg3 h3 arg4 h4 arg5 h5 arg6 h6 arg7 h7 arg8 h8 arg9 h9 arg10 h10 arg11 h11 x0 x1 x2 x3 x4 x5 k f7 f8 f9 f10 f11 e8
    isplitl [H9]
    · iexists _; isplitl [H9]; · iexact H9
      ipureintro; exact step8 c i arg1 h1 arg2 h2 arg3 h3 arg4 h4 arg5 h5 arg6 h6 arg7 h7 arg8 h8 arg9 h9 arg10 h10 arg11 h11 x0 x1 x2 x3 x4 x5 k f7 f8 f9 f10 f11 e9
    isplitl [H10]
    · iexists _; isplitl [H10]; · iexact H10
      ipureintro; exact step9 c i arg1 h1 arg2 h2 arg3 h3 arg4 h4 arg5 h5 arg6 h6 arg7 h7 arg8 h8 arg9 h9 arg10 h10 arg11 h11 x0 x1 x2 x3 x4 x5 k f7 f8 f9 f10 f11 e10
    iexists _; iexact H11

set_option maxHeartbeats 4000000 in
/-- The body on whole staging memrefs: the inputs as they were, the outputs at the specification. -/
theorem body_run (E : Set ℕ) (K : PUnit → sProp 𝕄I) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (S6 x0 x1 x2 x3 x4 x5) ∗ owns (c : Thread nD τ) arg8 fullShare (S7 x0 x1 x2 x3 x4) ∗ owns (c : Thread nD τ) arg9 fullShare (S8 x0 x1 x2 x3 x4) ∗ owns (c : Thread nD τ) arg10 fullShare (S9 x0 x4) ∗ (∃ d, owns (c : Thread nD τ) arg11 fullShare d)) -∗ K ⟨⟩))
      ⊢ wp frame (wpE (defs₀ (F := Ideal)) Variants.none (c : Thread nD τ) none) E (cc0_finalize i arg1 h1 arg2 h2 arg3 h3 arg4 h4 arg5 h5 arg6 h6 arg7 h7 arg8 h8 arg9 h9 arg10 h10 arg11 h11) K := by
  simp only [cc0_finalize_eq_skeleton]; unfold cc0_finalize_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%d7, %f7, -, H7⟩, ⟨%d8, %f8, -, H8⟩, ⟨%d9, %f9, -, H9⟩, ⟨%d10, %f10, -, H10⟩, ⟨%d11, %f11, -, H11⟩, Hk⟩
  obtain rfl := h1.eq_unread hg1; obtain rfl := h2.eq_unread hg2; obtain rfl := h3.eq_unread hg3; obtain rfl := h4.eq_unread hg4; obtain rfl := h5.eq_unread hg5; obtain rfl := h6.eq_unread hg6
  sl_for (inv c arg1 h1 arg2 h2 arg3 h3 arg4 h4 arg5 h5 arg6 h6 arg7 arg8 arg9 arg10 arg11 x0 x1 x2 x3 x4 x5) $$ [H1 H2 H3 H4 H5 H6 H7 H8 H9 H10 H11]
  · exact fun k acc => inv_step c i arg1 h1 arg2 h2 arg3 h3 arg4 h4 arg5 h5 arg6 h6 arg7 h7 arg8 h8 arg9 h9 arg10 h10 arg11 h11 x0 x1 x2 x3 x4 x5 E k acc
  · unfold inv
    isplitl [H1]; · iexact H1
    isplitl [H2]; · iexact H2
    isplitl [H3]; · iexact H3
    isplitl [H4]; · iexact H4
    isplitl [H5]; · iexact H5
    isplitl [H6]; · iexact H6
    isplitl [H7]
    · iexists _; isplitl [H7]; · iexact H7
      ipureintro; exact fun y hy => absurd hy (by omega)
    isplitl [H8]
    · iexists _; isplitl [H8]; · iexact H8
      ipureintro; exact fun y hy => absurd hy (by omega)
    isplitl [H9]
    · iexists _; isplitl [H9]; · iexact H9
      ipureintro; exact fun y hy => absurd hy (by omega)
    isplitl [H10]
    · iexists _; isplitl [H10]; · iexact H10
      ipureintro; exact fun y hy => absurd hy (by omega)
    iexists _; iexact H11
  iintro %acc HI
  unfold inv
  icases HI with ⟨H1, H2, H3, H4, H5, H6, ⟨%b7, H7, %e7⟩, ⟨%b8, H8, %e8⟩, ⟨%b9, H9, %e9⟩, ⟨%b10, H10, %e10⟩, ⟨%b11, H11⟩⟩
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro; exact funext fun y => e7 y (by have h4 := trips_eq; have := (y 1).isLt; have h5 : (y 1).val < 4096 := this; omega)
  isplitl [H8]
  · iexists _; isplitr
    swap; · iexact H8
    ipureintro; exact funext fun y => e8 y (by have h4 := trips_eq; have := (y 0).isLt; have h5 : (y 0).val < 32 := this; omega)
  isplitl [H9]
  · iexists _; isplitr
    swap; · iexact H9
    ipureintro; exact funext fun y => e9 y (by have h4 := trips_eq; have := (y 0).isLt; have h5 : (y 0).val < 32 := this; omega)
  isplitl [H10]
  · iexists _; isplitr
    swap; · iexact H10
    ipureintro; exact funext fun y => e10 y (by have h4 := trips_eq; have := (y 0).isLt; have h5 : (y 0).val < 32 := this; omega)
  iexists _, _; isplitr; swap; · iexact H11
  ipureintro; rfl

end Cert.KernelIdeal.Loop
-- ==== Proof.Run.lean ====
/-
  The kernel's launch with its outputs named: at every grid point the body leaves the block's specification in the four
  output buffers. From it, that every run of the kernel ends, with its arguments unchanged and every counter at zero.
-/
module

public import proofs.«01_k».proof.Proof.Loop
public import proofs.«01_k».proof.Proof.Gen.KernelIdeal.Frame.Runs
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Block

local notation "𝕄" => MT nD τ sig Unit (Elt Ideal) ℕ (UR sig nD τ) ℕ

variable (m : (ℓ : Loc nD τ sig) → Buf (Elt Ideal) ℓ) (ρ : Dev nD → PrngReg)

/-- The block's four outputs at point `t`, at the point's input blocks. -/
def o6 (c : Dev nD) (t : Fin cfg0.N) : Vec Ideal S64x4096 .i8 := S6 (iblk m c 0 t) (iblk m c 1 t) (iblk m c 2 t) (iblk m c 3 t) (iblk m c 4 t) (iblk m c 5 t)
def o7 (c : Dev nD) (t : Fin cfg0.N) : Vec Ideal S32x128 .f32 := S7 (iblk m c 0 t) (iblk m c 1 t) (iblk m c 2 t) (iblk m c 3 t) (iblk m c 4 t)
def o8 (c : Dev nD) (t : Fin cfg0.N) : Vec Ideal S32x128 .f32 := S8 (iblk m c 0 t) (iblk m c 1 t) (iblk m c 2 t) (iblk m c 3 t) (iblk m c 4 t)
def o9 (c : Dev nD) (t : Fin cfg0.N) : Vec Ideal S32x128 .f32 := S9 (iblk m c 0 t) (iblk m c 4 t)

/-! ## The pipeline's proof data -/

/-- The proof data of the one pipeline on core `c`: the arrays as the region finds them (`V`); after the body at
    point `t` each input's buffer at its block and the outputs' at the specification; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
    | ⟨7, _⟩ => o7 m c t
    | ⟨8, _⟩ => o8 m c t
    | ⟨9, _⟩ => o9 m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = o6 m c t := by dsimp only [dats]
theorem after0_7 (c : Dev nD) (t : Fin cfg0.N) : (dats m 0 c).after 7 t = o7 m c t := by dsimp only [dats]
theorem after0_8 (c : Dev nD) (t : Fin cfg0.N) : (dats m 0 c).after 8 t = o8 m c t := by dsimp only [dats]
theorem after0_9 (c : Dev nD) (t : Fin cfg0.N) : (dats m 0 c).after 9 t = o9 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold o6 o7 o8 o9
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Loop.body_run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The kernel at the ideal instance is quiescent: its arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Run

end
-- ==== Proof.KHost.lean ====
/-
  What the kernel's host operations before the pipeline leave in the arrays the pipeline reads: the segment sum of the lookups'
  gradients, the gathered rows' codes as 32-bit words, the gathered scales, biases and momenta, the random bits.
-/
module

public import proofs.«01_k».proof.Proof.Gen.KernelIdeal.Frame.Runs
public import Idealize.ShloMosaic.Lib.StableHlo.ReadAt
public import Idealize.ShloMosaic.Lib.Pointwise

@[expose] public section

set_option maxRecDepth 16384

noncomputable section

namespace Cert.KernelIdeal.Host
open Idealize.ShloMosaic Idealize.ShloMosaic.TcCoe Idealize.ShloMosaic.Tactic Cert.KernelIdeal Cert.KernelIdeal.Gen

/-- The rows to gather: an id below 0 counts from the table's end. -/
def rows (ids : Vec Ideal S163840 .i32) : Vec Ideal S163840x1 .i32 :=
  broadcastInDim S163840x1 ![0] bcast_S163840_S163840x1_0
    (select (cmpi .slt ids (broadcastInDim S163840 ![] bcast_S_S163840 (constantI S_ 32 0#32) : IVec S163840 32))
      (addi ids (broadcastInDim S163840 ![] bcast_S_S163840 (constantI S_ 32 5000000#32) : IVec S163840 32)) ids)

/-- The unique rows' gradients. -/
def grad (slot : Vec Ideal S1280x512 .i32) (go : Vec Ideal S1280x64 .f32) : Vec Ideal S163840x64 .f32 :=
  Host.scatterAdd (F := Ideal) scatter_S163840x64_S655360x1_S655360x64_1_0_0_1
    (broadcastInDim S163840x64 ![] bcast_S_S163840x64 (constant (F := Ideal) S_ .f32 0x00000000#32))
    (broadcastInDim S655360x1 ![0] bcast_S655360_S655360x1_0 (shapeCast S655360 slot shapeCasts_S1280x512_S655360))
    (shapeCast S655360x64 (broadcastInDim S1280x512x64 ![0, 1, 2] bcast_S1280x1x64_S1280x512x64_0_1_2
      (broadcastInDim S1280x1x64 ![0, 2] bcast_S1280x64_S1280x1x64_0_2 go)) shapeCasts_S1280x512x64_S655360x64)

/-- The unique rows' codes. -/
def codes (table : Vec Ideal S5000000x64 .i8) (ids : Vec Ideal S163840 .i32) : Vec Ideal S163840x64 .i8 :=
  Host.gather gather_S5000000x64_S163840x1_S163840x64_1_0_n_n_0_1_164 table (rows ids)

/-- The unique rows' entries of a per-row table. -/
def vec (table : Vec Ideal S5000000 .f32) (ids : Vec Ideal S163840 .i32) : Vec Ideal S163840 .f32 :=
  Host.gather gather_S5000000_S163840x1_S163840_n_0_n_n_0_1_1 table (rows ids)

variable (m : (ℓ : Loc nD τ sig) → Buf (Elt Ideal) ℓ) (c : Dev nD)

theorem V_v17 : V m c main_v17 = transpose S64x163840 [1, 0]
    (grad (m ((c : Thread nD τ).loc main_arg5)) (m ((c : Thread nD τ).loc main_arg6))) transposes_S163840x64_S64x163840_1_0 := by
  unfold V V0
  after_reads_simp
  rfl

theorem V_v16 : V m c main_v16 = transpose S16x163840 [1, 0]
    (Host.bitcastConvertWiden S163840x16 32 (shapeCast S163840x16x4 (codes (m ((c : Thread nD τ).loc main_arg0)) (m ((c : Thread nD τ).loc main_arg4))) shapeCasts_S163840x64_S163840x16x4)
      splits_S163840x16_w32_S163840x16x4_w8) transposes_S163840x16_S16x163840_1_0 := by
  unfold V V0
  after_reads_simp
  rfl

theorem V_v25 : V m c main_v25 = shapeCast S1280x128 (vec (m ((c : Thread nD τ).loc main_arg1)) (m ((c : Thread nD τ).loc main_arg4))) shapeCasts_S163840_S1280x128 := by
  unfold V V0
  after_reads_simp
  rfl

theorem V_v33 : V m c main_v33 = shapeCast S1280x128 (vec (m ((c : Thread nD τ).loc main_arg2)) (m ((c : Thread nD τ).loc main_arg4))) shapeCasts_S163840_S1280x128 := by
  unfold V V0
  after_reads_simp
  rfl

theorem V_v41 : V m c main_v41 = shapeCast S1280x128 (vec (m ((c : Thread nD τ).loc main_arg3)) (m ((c : Thread nD τ).loc main_arg4))) shapeCasts_S163840_S1280x128 := by
  unfold V V0
  after_reads_simp
  rfl

theorem V_v42 : V m c main_v42 = transpose S64x163840 [1, 0] (m ((c : Thread nD τ).loc main_arg7) : Vec Ideal S163840x64 .i32) transposes_S163840x64_S64x163840_1_0 := by
  unfold V V0
  after_reads_simp

end Cert.KernelIdeal.Host
-- ==== Proof.RHost.lean ====
/-
  What the reference's host operations before its kernel leave in the arrays the kernel reads: the segment sum of the lookups'
  gradients, the gathered rows' codes, the gathered scales, biases and momenta.
-/
module

public import proofs.«01_k».proof.Proof.Gen.ReferenceIdeal.Frame
public import Idealize.ShloMosaic.Lib.StableHlo.ReadAt
public import Idealize.ShloMosaic.Lib.Pointwise

@[expose] public section

set_option maxRecDepth 16384

noncomputable section

namespace Cert.ReferenceIdeal.Host
open Idealize.ShloMosaic Idealize.ShloMosaic.TcCoe Idealize.ShloMosaic.Tactic Cert.ReferenceIdeal Cert.ReferenceIdeal.Gen

/-- The rows to gather: an id below 0 counts from the table's end. -/
def rows (ids : Vec Ideal S163840 .i32) : Vec Ideal S163840x1 .i32 :=
  broadcastInDim S163840x1 ![0] bcast_S163840_S163840x1_0
    (select (cmpi .slt ids (broadcastInDim S163840 ![] bcast_S_S163840 (constantI S_ 32 0#32) : IVec S163840 32))
      (addi ids (broadcastInDim S163840 ![] bcast_S_S163840 (constantI S_ 32 5000000#32) : IVec S163840 32)) ids)

/-- The unique rows' gradients. -/
def grad (slot : Vec Ideal S1280x512 .i32) (go : Vec Ideal S1280x64 .f32) : Vec Ideal S163840x64 .f32 :=
  Host.scatterAdd (F := Ideal) scatter_S163840x64_S655360x1_S655360x64_1_0_0_1
    (broadcastInDim S163840x64 ![] bcast_S_S163840x64 (constant (F := Ideal) S_ .f32 0x00000000#32))
    (broadcastInDim S655360x1 ![0] bcast_S655360_S655360x1_0 (shapeCast S655360 slot shapeCasts_S1280x512_S655360))
    (shapeCast S655360x64 (broadcastInDim S1280x512x64 ![0, 1, 2] bcast_S1280x1x64_S1280x512x64_0_1_2
      (broadcastInDim S1280x1x64 ![0, 2] bcast_S1280x64_S1280x1x64_0_2 go)) shapeCasts_S1280x512x64_S655360x64)

/-- The unique rows' codes. -/
def codes (table : Vec Ideal S5000000x64 .i8) (ids : Vec Ideal S163840 .i32) : Vec Ideal S163840x64 .i8 :=
  Host.gather gather_S5000000x64_S163840x1_S163840x64_1_0_n_n_0_1_164 table (rows ids)

/-- The unique rows' entries of a per-row table. -/
def vec (table : Vec Ideal S5000000 .f32) (ids : Vec Ideal S163840 .i32) : Vec Ideal S163840 .f32 :=
  Host.gather gather_S5000000_S163840x1_S163840_n_0_n_n_0_1_1 table (rows ids)

variable (m : (ℓ : Loc nD τ sig) → Buf (Elt Ideal) ℓ) (c : Dev nD)

theorem V_grad : V m c main_v6 = grad (m ((c : Thread nD τ).loc main_arg5)) (m ((c : Thread nD τ).loc main_arg6)) := by
  unfold V
  after_reads_simp
  rfl

theorem V_codes : V m c main_v13 = codes (m ((c : Thread nD τ).loc main_arg0)) (m ((c : Thread nD τ).loc main_arg4)) := by
  unfold V
  after_reads_simp
  rfl

theorem V_scale : V m c main_v20 = vec (m ((c : Thread nD τ).loc main_arg1)) (m ((c : Thread nD τ).loc main_arg4)) := by
  unfold V
  after_reads_simp
  rfl

theorem V_bias : V m c main_v27 = vec (m ((c : Thread nD τ).loc main_arg2)) (m ((c : Thread nD τ).loc main_arg4)) := by
  unfold V
  after_reads_simp
  rfl

theorem V_momentum : V m c main_v34 = vec (m ((c : Thread nD τ).loc main_arg3)) (m ((c : Thread nD τ).loc main_arg4)) := by
  unfold V
  after_reads_simp
  rfl

end Cert.ReferenceIdeal.Host
-- ==== Proof.HostEq.lean ====
/-
  The kernel and the reference gather and sum the same operands before their calls.
-/
module

public import proofs.«01_k».proof.Proof.KHost
public import proofs.«01_k».proof.Proof.RHost

@[expose] public section

set_option maxRecDepth 16384

noncomputable section

namespace Cert.HostEq
open Idealize.ShloMosaic

/-- Both take the same rows of the table. -/
theorem rows_eq (ids : Vec Ideal ⟨1, ![163840]⟩ .i32) : Cert.ReferenceIdeal.Host.rows ids = Cert.KernelIdeal.Host.rows ids := rfl

/-- Both sum the lookups' gradients into the same rows. -/
theorem grad_eq (slot : Vec Ideal ⟨2, ![1280, 512]⟩ .i32) (go : Vec Ideal ⟨2, ![1280, 64]⟩ .f32) :
    Cert.ReferenceIdeal.Host.grad slot go = Cert.KernelIdeal.Host.grad slot go := rfl

/-- Both gather the same codes. -/
theorem codes_eq (table : Vec Ideal ⟨2, ![5000000, 64]⟩ .i8) (ids : Vec Ideal ⟨1, ![163840]⟩ .i32) :
    Cert.ReferenceIdeal.Host.codes table ids = Cert.KernelIdeal.Host.codes table ids := rfl

/-- Both gather the same entry of a per-row table. -/
theorem vec_eq (table : Vec Ideal ⟨1, ![5000000]⟩ .f32) (ids : Vec Ideal ⟨1, ![163840]⟩ .i32) :
    Cert.ReferenceIdeal.Host.vec table ids = Cert.KernelIdeal.Host.vec table ids := rfl

end Cert.HostEq

end
-- ==== Proof.Step.lean ====
/-
  The optimizer step as a function of the unique rows: one row's new momentum, its updated weights, and the four results over
  all rows, in the column arithmetic of `Cert.Column`.
-/
module

public import proofs.«01_k».proof.Proof.Column

@[expose] public section

noncomputable section

namespace Cert.Step
open Idealize.ShloMosaic Cert.Column

variable (G : Vec Ideal ⟨2, ![163840, 64]⟩ .f32) (C : Vec Ideal ⟨2, ![163840, 64]⟩ .i8) (SC BI ST : Vec Ideal ⟨1, ![163840]⟩ .f32)
  (RD : Vec Ideal ⟨2, ![163840, 64]⟩ .i32)

/-- The new momentum of row `n`. -/
def stN (n : Fin 163840) : EReal := stV (ST (ix1 n)) fun a => G (ix2 n a)

/-- The updated weights of row `n`. -/
def wN (n : Fin 163840) (a : Fin 64) : EReal :=
  wV (mulV (stN G ST n)) (SC (ix1 n)) (BI (ix1 n)) (C (ix2 n a)) (G (ix2 n a))

/-- The new code of an entry of row `n`. -/
def qN (n : Fin 163840) (a : Fin 64) : BitVec 8 :=
  qV (wN G C SC BI ST n a) (mnV (wN G C SC BI ST n)) (invV (wN G C SC BI ST n)) (RD (ix2 n a))

/-- The rows' new codes, scales, biases and momenta. -/
def newCodes : Vec Ideal ⟨2, ![163840, 64]⟩ .i8 := fun y => qN G C SC BI ST RD (y 0) (y 1)
def newScale : Vec Ideal ⟨1, ![163840]⟩ .f32 := fun y => scV (wN G C SC BI ST (y 0))
def newBias : Vec Ideal ⟨1, ![163840]⟩ .f32 := fun y => mnV (wN G C SC BI ST (y 0))
def newState : Vec Ideal ⟨1, ![163840]⟩ .f32 := fun y => stN G ST (y 0)

end Cert.Step
-- ==== Proof.KArr.lean ====
/-
  The blocks of the kernel's arrays at coordinates, and each array read as the host's values: block `t` holds the unique rows
  `4096 t` to `4096 t + 4095`.
-/
module

public import proofs.«01_k».proof.Proof.KHost
public import proofs.«01_k».proof.Proof.Block
public import proofs.«01_k».proof.Proof.Step
public import proofs.«01_k».proof.Proof.Run
public import Idealize.ShloMosaic.Lib.Pipeline.ValueKit
public import Idealize.ShloMosaic.Lib.BitcastConvert

@[expose] public section

set_option maxRecDepth 16384

noncomputable section

namespace Cert.KernelIdeal.Arr
open Idealize.ShloMosaic Idealize.ShloMosaic.TcCoe Idealize.ShloMosaic.Tactic Cert.KernelIdeal Cert.KernelIdeal.Gen
open Cert.KernelIdeal.Block Cert.Column

/-- The unique row of column `j` of block `t`. -/
def col (t : Fin cfg0.N) (j : Fin 4096) : Fin 163840 := ⟨4096 * t.val + j.val, by have h : t.val < 40 := t.isLt; omega⟩

variable (m : (ℓ : Loc nD τ sig) → Buf (Elt Ideal) ℓ) (c : Dev nD)

theorem index0 : ∀ t : Fin cfg0.N, win0_0.index t = ![0, t.val] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, t.val] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)

/-- The row of the 1280 by 128 layout that row `R` of block `t` is. -/
def big (t : Fin cfg0.N) (R : Fin 32) : Fin 1280 := ⟨32 * t.val + R.val, by have h : t.val < 40 := t.isLt; omega⟩

theorem blk0 (t : Fin cfg0.N) (a : Fin 64) (j : Fin 4096) :
    (iblk m c 0 t : Vec Ideal S64x4096 .f32) (ix2 a j) = (V m c main_v17 : Vec Ideal S64x163840 .f32) (ix2 a (col t j)) := by
  blk_simp [iblk]
  refine congrArg (V m c main_v17) ?_
  blk_ext [index0 t, col]

theorem blk1 (t : Fin cfg0.N) (a : Fin 16) (j : Fin 4096) :
    (iblk m c 1 t : Vec Ideal S16x4096 .i32) (ix2 a j) = (V m c main_v16 : Vec Ideal S16x163840 .i32) (ix2 a (col t j)) := by
  blk_simp [iblk]
  refine congrArg (V m c main_v16) ?_
  blk_ext [index1 t, col]

theorem blk2 (t : Fin cfg0.N) (R : Fin 32) (l : Fin 128) :
    (iblk m c 2 t : Vec Ideal S32x128 .f32) (ix2 R l) = (V m c main_v25 : Vec Ideal S1280x128 .f32) (ix2 (big t R) l) := by
  blk_simp [iblk]
  refine congrArg (V m c main_v25) ?_
  blk_ext [index2 t, big]

theorem blk3 (t : Fin cfg0.N) (R : Fin 32) (l : Fin 128) :
    (iblk m c 3 t : Vec Ideal S32x128 .f32) (ix2 R l) = (V m c main_v33 : Vec Ideal S1280x128 .f32) (ix2 (big t R) l) := by
  blk_simp [iblk]
  refine congrArg (V m c main_v33) ?_
  blk_ext [index3 t, big]

theorem blk4 (t : Fin cfg0.N) (R : Fin 32) (l : Fin 128) :
    (iblk m c 4 t : Vec Ideal S32x128 .f32) (ix2 R l) = (V m c main_v41 : Vec Ideal S1280x128 .f32) (ix2 (big t R) l) := by
  blk_simp [iblk]
  refine congrArg (V m c main_v41) ?_
  blk_ext [index4 t, big]

theorem blk5 (t : Fin cfg0.N) (a : Fin 64) (j : Fin 4096) :
    (iblk m c 5 t : Vec Ideal S64x4096 .i32) (ix2 a j) = (V m c main_v42 : Vec Ideal S64x163840 .i32) (ix2 a (col t j)) := by
  blk_simp [iblk]
  refine congrArg (V m c main_v42) ?_
  blk_ext [index5 t, col]

end Cert.KernelIdeal.Arr
-- ==== Proof.KVal.lean ====
/-
  What the kernel's body leaves at a grid point, as the update of the unique rows that the point's columns are.
-/
module

public import proofs.«01_k».proof.Proof.KArr
public import proofs.«01_k».proof.Proof.KHost
public import proofs.«01_k».proof.Proof.Step
public import proofs.«01_k».proof.Proof.Block
public import Idealize.ShloMosaic.Lib.BitcastConvert

@[expose] public section

set_option maxRecDepth 16384

noncomputable section

namespace Cert.KernelIdeal.Val
open Idealize.ShloMosaic Idealize.ShloMosaic.TcCoe Idealize.ShloMosaic.Tactic Cert.KernelIdeal Cert.KernelIdeal.Gen
open Cert.Column Cert.Step Cert.KernelIdeal.Block Cert.KernelIdeal.Arr Cert.KernelIdeal.Host

/-- Four codes of a row packed in a word: byte `a % 4` of word `a / 4` is code `a`. -/
theorem byte_word (X : Vec Ideal S163840x64 .i8) (n : Fin 163840) (a : Fin 64) :
    byteAt (Host.bitcastConvertWiden S163840x16 32 (shapeCast S163840x16x4 X shapeCasts_S163840x64_S163840x16x4)
      splits_S163840x16_w32_S163840x16x4_w8 (ix2 n (⟨a.val / 4, by omega⟩ : Fin 16))) (a.val % 4) = X (ix2 n a) := by
  refine BitVec.eq_of_getLsbD_eq fun i hi => ?_
  have h4 : a.val % 4 < 4 := Nat.mod_lt _ (by decide)
  unfold byteAt
  rw [BitVec.getLsbD_extractLsb', Host.bitcastConvertWiden_getLsbD _ _ _ _ _ _ (by omega)]
  simp only [hi, decide_true, Bool.true_and]
  have e1 : (a.val % 4 * 8 + i) / 8 = a.val % 4 := by omega
  have e2 : (a.val % 4 * 8 + i) % 8 = i := by omega
  rw [e2]
  refine congrArg (fun b : BitVec 8 => b.getLsbD i) ?_
  refine shapeCast_apply _ _ _ _ ?_
  rw [Shape.rowMajor_val_two, Shape.rowMajor_val_three]
  have key : ∀ q : S163840x16x4.Coord splits_S163840x16_w32_S163840x16x4_w8.axis, q.val = a.val % 4 →
      (n.val * 64 + a.val) = ((splits_S163840x16_w32_S163840x16x4_w8.snoc (ix2 n (⟨a.val / 4, by omega⟩ : Fin 16)) q 0).val * 16
        + (splits_S163840x16_w32_S163840x16x4_w8.snoc (ix2 n (⟨a.val / 4, by omega⟩ : Fin 16)) q 1).val) * 4
        + (splits_S163840x16_w32_S163840x16x4_w8.snoc (ix2 n (⟨a.val / 4, by omega⟩ : Fin 16)) q 2).val := by
    intro q hq
    rw [Shape.SplitsWords.snoc_apply_val_of_lt _ _ _ 0 (by decide), Shape.SplitsWords.snoc_apply_val_of_lt _ _ _ 1 (by decide),
      show (splits_S163840x16_w32_S163840x16x4_w8.snoc (ix2 n (⟨a.val / 4, by omega⟩ : Fin 16)) q 2).val = q.val from
        congrArg Fin.val (Shape.SplitsWords.snoc_axis splits_S163840x16_w32_S163840x16x4_w8 (ix2 n (⟨a.val / 4, by omega⟩ : Fin 16)) q)]
    show n.val * 64 + a.val = (n.val * 16 + a.val / 4) * 4 + q.val
    omega
  exact key _ e1

variable (m : (ℓ : Loc nD τ sig) → Buf (Elt Ideal) ℓ) (c : Dev nD)

/-- The update's six operands: what the host operations before the call made of the arguments. -/
def G : Vec Ideal S163840x64 .f32 := grad (m ((c : Thread nD τ).loc main_arg5)) (m ((c : Thread nD τ).loc main_arg6))
def C : Vec Ideal S163840x64 .i8 := codes (m ((c : Thread nD τ).loc main_arg0)) (m ((c : Thread nD τ).loc main_arg4))
def SC : Vec Ideal S163840 .f32 := vec (m ((c : Thread nD τ).loc main_arg1)) (m ((c : Thread nD τ).loc main_arg4))
def BI : Vec Ideal S163840 .f32 := vec (m ((c : Thread nD τ).loc main_arg2)) (m ((c : Thread nD τ).loc main_arg4))
def ST : Vec Ideal S163840 .f32 := vec (m ((c : Thread nD τ).loc main_arg3)) (m ((c : Thread nD τ).loc main_arg4))
def RD : Vec Ideal S163840x64 .i32 := m ((c : Thread nD τ).loc main_arg7)

/-- A vector laid out in rows of 128 lanes. -/
theorem cast_at (x : Vec Ideal S163840 .f32) (t : Fin cfg0.N) (R : Fin 32) (l : Fin 128) :
    shapeCast S1280x128 x shapeCasts_S163840_S1280x128 (ix2 (big t R) l) = x (ix1 (col t (cIx R l))) := by
  refine shapeCast_apply _ _ _ _ ?_
  rw [Shape.rowMajor_val_two, Shape.rowMajor_val_one]
  show 4096 * t.val + (128 * R.val + l.val) = (32 * t.val + R.val) * 128 + l.val
  omega

theorem at0 (t : Fin cfg0.N) (a : Fin 64) (j : Fin 4096) :
    (iblk m c 0 t : Vec Ideal S64x4096 .f32) (ix2 a j) = G m c (ix2 (col t j) a) := by
  rw [blk0, V_v17]
  exact transpose_apply _ _ _ _ _ (by intro b; match b with | ⟨0, _⟩ => rfl | ⟨1, _⟩ => rfl)

theorem at5 (t : Fin cfg0.N) (a : Fin 64) (j : Fin 4096) :
    (iblk m c 5 t : Vec Ideal S64x4096 .i32) (ix2 a j) = RD m c (ix2 (col t j) a) := by
  rw [blk5, V_v42]
  exact transpose_apply _ _ _ _ _ (by intro b; match b with | ⟨0, _⟩ => rfl | ⟨1, _⟩ => rfl)

theorem at1 (t : Fin cfg0.N) (a : Fin 64) (j : Fin 4096) :
    byteAt ((iblk m c 1 t : Vec Ideal S16x4096 .i32) (ix2 (⟨a.val / 4, by omega⟩ : Fin 16) j)) (a.val % 4) = C m c (ix2 (col t j) a) := by
  rw [blk1, V_v16]
  refine Eq.trans (congrArg (fun w : BitVec 32 => byteAt w (a.val % 4)) ?_) (byte_word (C m c) (col t j) a)
  exact transpose_apply _ _ _ _ _ (by intro b; match b with | ⟨0, _⟩ => rfl | ⟨1, _⟩ => rfl)

theorem at2 (t : Fin cfg0.N) (R : Fin 32) (l : Fin 128) :
    (iblk m c 2 t : Vec Ideal S32x128 .f32) (ix2 R l) = SC m c (ix1 (col t (cIx R l))) := by
  rw [blk2, V_v25]; exact cast_at _ t R l

theorem at3 (t : Fin cfg0.N) (R : Fin 32) (l : Fin 128) :
    (iblk m c 3 t : Vec Ideal S32x128 .f32) (ix2 R l) = BI m c (ix1 (col t (cIx R l))) := by
  rw [blk3, V_v33]; exact cast_at _ t R l

theorem at4 (t : Fin cfg0.N) (R : Fin 32) (l : Fin 128) :
    (iblk m c 4 t : Vec Ideal S32x128 .f32) (ix2 R l) = ST m c (ix1 (col t (cIx R l))) := by
  rw [blk4, V_v41]; exact cast_at _ t R l

/-- The column's new momentum is the row's. -/
theorem st_eq (t : Fin cfg0.N) (R : Fin 32) (l : Fin 128) :
    stB (iblk m c 0 t) (iblk m c 4 t) R l = stN (G m c) (ST m c) (col t (cIx R l)) := by
  unfold stB stN
  rw [at4]
  exact congrArg _ (funext fun a => at0 m c t a (cIx R l))

/-- The column's updated weights are the row's. -/
theorem w_eq (t : Fin cfg0.N) (R : Fin 32) (l : Fin 128) :
    wB (iblk m c 0 t) (iblk m c 1 t) (iblk m c 2 t) (iblk m c 3 t) (iblk m c 4 t) R l
      = wN (G m c) (C m c) (SC m c) (BI m c) (ST m c) (col t (cIx R l)) := by
  funext a
  unfold wB wN
  rw [at1, at0, at2, at3, st_eq]

/-- The column's new code is the row's. -/
theorem q_eq (t : Fin cfg0.N) (R : Fin 32) (l : Fin 128) (a : Fin 64) :
    qB (iblk m c 0 t) (iblk m c 1 t) (iblk m c 2 t) (iblk m c 3 t) (iblk m c 4 t) (iblk m c 5 t) R l a
      = qN (G m c) (C m c) (SC m c) (BI m c) (ST m c) (RD m c) (col t (cIx R l)) a := by
  unfold qB qN
  rw [w_eq, at5]

end Cert.KernelIdeal.Val
-- ==== Proof.KOut.lean ====
/-
  What the kernel returns: the updated codes, scales, biases and momenta of the unique rows.
-/
module

public import proofs.«01_k».proof.Proof.KVal
public import proofs.«01_k».proof.Proof.Run

@[expose] public section

set_option maxRecDepth 16384

noncomputable section

namespace Cert.KernelIdeal.Out
open Idealize.ShloMosaic Idealize.ShloMosaic.TcCoe Idealize.ShloMosaic.Tactic Cert.KernelIdeal Cert.KernelIdeal.Gen
open Idealize.ShloMosaic.Pipeline (Dat)
open Cert.Column Cert.Step Cert.KernelIdeal.Block Cert.KernelIdeal.Arr Cert.KernelIdeal.Val

variable (m : (ℓ : Loc nD τ sig) → Buf (Elt Ideal) ℓ) (c : Dev nD)

theorem cIx_eta (j : Fin 4096) : cIx (rowOf j) (laneOf j) = j := Fin.ext (by simp only [cIx, rowOf, laneOf]; omega)

/-- The unique row at row `R` and lane `l` of the 1280 by 128 layout. -/
def flat (R : Fin 1280) (l : Fin 128) : Fin 163840 := ⟨128 * R.val + l.val, by omega⟩

theorem flat_big (t : Fin cfg0.N) (R : Fin 32) (l : Fin 128) : flat (big t R) l = col t (cIx R l) :=
  Fin.ext (by simp only [flat, big, col, cIx]; omega)

/-- The four arrays the call leaves. -/
def A6 : Vec Ideal S64x163840 .i8 := fun y => qN (G m c) (C m c) (SC m c) (BI m c) (ST m c) (RD m c) (y 1) (y 0)
def A7 : Vec Ideal S1280x128 .f32 := fun y => scV (wN (G m c) (C m c) (SC m c) (BI m c) (ST m c) (flat (y 0) (y 1)))
def A8 : Vec Ideal S1280x128 .f32 := fun y => mnV (wN (G m c) (C m c) (SC m c) (BI m c) (ST m c) (flat (y 0) (y 1)))
def A9 : Vec Ideal S1280x128 .f32 := fun y => stN (G m c) (ST m c) (flat (y 0) (y 1))

theorem o6_at (t : Fin cfg0.N) (a : Fin 64) (j : Fin 4096) : Run.o6 m c t (ix2 a j) = A6 m c (ix2 a (col t j)) := by
  unfold Run.o6 S6 A6
  show qB _ _ _ _ _ _ (rowOf j) (laneOf j) a = qN _ _ _ _ _ _ (col t j) a
  rw [q_eq, cIx_eta]

theorem o7_at (t : Fin cfg0.N) (R : Fin 32) (l : Fin 128) : Run.o7 m c t (ix2 R l) = A7 m c (ix2 (big t R) l) := by
  unfold Run.o7 S7 A7
  show scV (wB _ _ _ _ _ R l) = scV (wN _ _ _ _ _ (flat (big t R) l))
  rw [w_eq, flat_big]

theorem o8_at (t : Fin cfg0.N) (R : Fin 32) (l : Fin 128) : Run.o8 m c t (ix2 R l) = A8 m c (ix2 (big t R) l) := by
  unfold Run.o8 S8 A8
  show mnV (wB _ _ _ _ _ R l) = mnV (wN _ _ _ _ _ (flat (big t R) l))
  rw [w_eq, flat_big]

theorem o9_at (t : Fin cfg0.N) (R : Fin 32) (l : Fin 128) : Run.o9 m c t (ix2 R l) = A9 m c (ix2 (big t R) l) := by
  unfold Run.o9 S9 A9
  show stB _ _ R l = stN _ _ (flat (big t R) l)
  rw [st_eq, flat_big]

theorem eta2 {p q : ℕ} (x : (⟨2, ![p, q]⟩ : Shape).Idx) : x = ix2 (x 0) (x 1) := by
  funext b
  match b with
  | ⟨0, _⟩ => rfl
  | ⟨1, _⟩ => rfl

theorem arr6 : (Run.dats m 0 c).arrAt 6 cfg0.N = A6 m c := by
  refine (Run.dats m 0 c).arrAt_eq_of_covers 6 (A6 m c) (by decide +kernel) fun t hf y => ?_
  blk_simp
  rw [Run.after0_6, eta2 y]
  refine (o6_at m c t (y 0) (y 1)).trans (congrArg (A6 m c) ?_)
  blk_ext [index6 t, col]

theorem arr7 : (Run.dats m 0 c).arrAt 7 cfg0.N = A7 m c := by
  refine (Run.dats m 0 c).arrAt_eq_of_covers 7 (A7 m c) (by decide +kernel) fun t hf y => ?_
  blk_simp
  rw [Run.after0_7, eta2 y]
  refine (o7_at m c t (y 0) (y 1)).trans (congrArg (A7 m c) ?_)
  blk_ext [index7 t, big]

theorem arr8 : (Run.dats m 0 c).arrAt 8 cfg0.N = A8 m c := by
  refine (Run.dats m 0 c).arrAt_eq_of_covers 8 (A8 m c) (by decide +kernel) fun t hf y => ?_
  blk_simp
  rw [Run.after0_8, eta2 y]
  refine (o8_at m c t (y 0) (y 1)).trans (congrArg (A8 m c) ?_)
  blk_ext [index8 t, big]

theorem arr9 : (Run.dats m 0 c).arrAt 9 cfg0.N = A9 m c := by
  refine (Run.dats m 0 c).arrAt_eq_of_covers 9 (A9 m c) (by decide +kernel) fun t hf y => ?_
  blk_simp
  rw [Run.after0_9, eta2 y]
  refine (o9_at m c t (y 0) (y 1)).trans (congrArg (A9 m c) ?_)
  blk_ext [index9 t, big]

end Cert.KernelIdeal.Out

end
-- ==== Proof.KRes.lean ====
/-
  The kernel's four results after the host operations behind the call, and the run that says so.
-/
module

public import proofs.«01_k».proof.Proof.KOut

@[expose] public section

set_option maxRecDepth 16384

noncomputable section

namespace Cert.KernelIdeal.Res
open Idealize.ShloMosaic Idealize.ShloMosaic.TcCoe Idealize.ShloMosaic.Tactic Idealize.SL.Sem Cert.KernelIdeal Cert.KernelIdeal.Gen
open Cert.Column Cert.Step Cert.KernelIdeal.Block Cert.KernelIdeal.Arr Cert.KernelIdeal.Val Cert.KernelIdeal.Out

variable (m : (ℓ : Loc nD τ sig) → Buf (Elt Ideal) ℓ) (ρ : Dev nD → PrngReg) (c : Dev nD)

theorem arr_injective : Function.Injective (Pipeline.arrRef spec0) := by decide

/-- Undoing the layout in rows of 128 lanes. -/
theorem uncast (A : Vec Ideal S1280x128 .f32) (n : Fin 163840) :
    shapeCast S163840 A shapeCasts_S1280x128_S163840 (ix1 n)
      = A (ix2 (⟨n.val / 128, by omega⟩ : Fin 1280) (⟨n.val % 128, by omega⟩ : Fin 128)) := by
  refine shapeCast_apply _ _ _ _ ?_
  rw [Shape.rowMajor_val_two, Shape.rowMajor_val_one]
  show n.val / 128 * 128 + n.val % 128 = n.val
  omega

theorem flat_eta (n : Fin 163840) : flat (⟨n.val / 128, by omega⟩ : Fin 1280) (⟨n.val % 128, by omega⟩ : Fin 128) = n :=
  Fin.ext (by simp only [flat]; omega)

theorem eta1 (y : S163840.Idx) : y = ix1 (y 0) := by
  funext b
  match b with
  | ⟨0, _⟩ => rfl

theorem res44 : Pipeline.afterTail₀ cfgs (Run.dats m) 0 (V0 m) [hostOps1] c main_v44 = newCodes (G m c) (C m c) (SC m c) (BI m c) (ST m c) (RD m c) := by
  have h : Pipeline.afterTail₀ cfgs (Run.dats m) 0 (V0 m) [hostOps1] c main_v44
      = transpose S163840x64 [1, 0] (A6 m c) transposes_S64x163840_S163840x64_1_0 := by
    unfold Pipeline.afterTail₀
    after_reads_simp
    exact congrArg (transpose S163840x64 [1, 0] · transposes_S64x163840_S163840x64_1_0)
      ((Pipeline.withArrays_arr spec0 arr_injective c (V0 m c) _ 6).trans (arr6 m c))
  rw [h]
  funext y
  rw [eta2 y]
  exact transpose_apply _ _ _ _ (ix2 (y 1) (y 0)) (by intro b; match b with | ⟨0, _⟩ => rfl | ⟨1, _⟩ => rfl)

theorem res45 : Pipeline.afterTail₀ cfgs (Run.dats m) 0 (V0 m) [hostOps1] c main_v45 = newScale (G m c) (C m c) (SC m c) (BI m c) (ST m c) := by
  have h : Pipeline.afterTail₀ cfgs (Run.dats m) 0 (V0 m) [hostOps1] c main_v45 = shapeCast S163840 (A7 m c) shapeCasts_S1280x128_S163840 := by
    unfold Pipeline.afterTail₀
    after_reads_simp
    exact congrArg (shapeCast S163840 · shapeCasts_S1280x128_S163840)
      ((Pipeline.withArrays_arr spec0 arr_injective c (V0 m c) _ 7).trans (arr7 m c))
  rw [h]
  funext y
  rw [eta1 y]
  exact (uncast _ _).trans (congrArg (fun n => scV (wN (G m c) (C m c) (SC m c) (BI m c) (ST m c) n)) (flat_eta (y 0)))

theorem res46 : Pipeline.afterTail₀ cfgs (Run.dats m) 0 (V0 m) [hostOps1] c main_v46 = newBias (G m c) (C m c) (SC m c) (BI m c) (ST m c) := by
  have h : Pipeline.afterTail₀ cfgs (Run.dats m) 0 (V0 m) [hostOps1] c main_v46 = shapeCast S163840 (A8 m c) shapeCasts_S1280x128_S163840 := by
    unfold Pipeline.afterTail₀
    after_reads_simp
    exact congrArg (shapeCast S163840 · shapeCasts_S1280x128_S163840)
      ((Pipeline.withArrays_arr spec0 arr_injective c (V0 m c) _ 8).trans (arr8 m c))
  rw [h]
  funext y
  rw [eta1 y]
  exact (uncast _ _).trans (congrArg (fun n => mnV (wN (G m c) (C m c) (SC m c) (BI m c) (ST m c) n)) (flat_eta (y 0)))

theorem res47 : Pipeline.afterTail₀ cfgs (Run.dats m) 0 (V0 m) [hostOps1] c main_v47 = newState (G m c) (ST m c) := by
  have h : Pipeline.afterTail₀ cfgs (Run.dats m) 0 (V0 m) [hostOps1] c main_v47 = shapeCast S163840 (A9 m c) shapeCasts_S1280x128_S163840 := by
    unfold Pipeline.afterTail₀
    after_reads_simp
    exact congrArg (shapeCast S163840 · shapeCasts_S1280x128_S163840)
      ((Pipeline.withArrays_arr spec0 arr_injective c (V0 m c) _ 9).trans (arr9 m c))
  rw [h]
  funext y
  rw [eta1 y]
  exact (uncast _ _).trans (congrArg (fun n => stN (G m c) (ST m c) n) (flat_eta (y 0)))

/-- Every run of the kernel ends with the four results at the update of the gathered rows. -/
theorem run : θ_run defs (onTc (τ := τ) (main (F := Ideal))) ⟨m, fun _ => 0, ρ⟩ (fun r => ∀ c : Dev nD,
      r.2.mem ((c.tc : Thread nD τ).loc main_v44) = newCodes (G m c) (C m c) (SC m c) (BI m c) (ST m c) (RD m c)
      ∧ r.2.mem ((c.tc : Thread nD τ).loc main_v45) = newScale (G m c) (C m c) (SC m c) (BI m c) (ST m c)
      ∧ r.2.mem ((c.tc : Thread nD τ).loc main_v46) = newBias (G m c) (C m c) (SC m c) (BI m c) (ST m c)
      ∧ r.2.mem ((c.tc : Thread nD τ).loc main_v47) = newState (G m c) (ST m c)) :=
  (θ_run defs _ _).mono (fun _ h c =>
    ⟨((h c).2 main_v44 (Pipeline.mem_restRefs_of main_v44 (by decide) (by decide))).trans (res44 m c),
      ((h c).2 main_v45 (Pipeline.mem_restRefs_of main_v45 (by decide) (by decide))).trans (res45 m c),
      ((h c).2 main_v46 (Pipeline.mem_restRefs_of main_v46 (by decide) (by decide))).trans (res46 m c),
      ((h c).2 main_v47 (Pipeline.mem_restRefs_of main_v47 (by decide) (by decide))).trans (res47 m c)⟩) (Run.run_main m ρ)

end Cert.KernelIdeal.Res

end
-- ==== Proof.RFacts.lean ====
/-
  Facts about numbers that the kernel's spelling of the update and the reference's differ by: a mean as a quotient or as a
  product, an unsigned number read as a signed one, and a clipped value cut to a byte.
-/
module

public import proofs.«01_k».proof.Proof.Column
public import Idealize.ShloMosaic.Lib.Pointwise

@[expose] public section

noncomputable section

namespace Cert.Facts
open Idealize.ShloMosaic Cert.Column

theorem c64 : Ideal.ofBits .f32 0x42800000#32 = ((64 : ℝ) : EReal) := by
  simp [Ideal.ofBits, Ideal.ieee, -EReal.coe_mul]; norm_num

theorem c164 : Ideal.ofBits .f32 0x3C800000#32 = ((1 / 64 : ℝ) : EReal) := by
  simp [Ideal.ofBits, Ideal.ieee, -EReal.coe_mul]; norm_num

theorem c255 : Ideal.ofBits .f32 0x437F0000#32 = ((255 : ℝ) : EReal) := by
  simp [Ideal.ofBits, Ideal.ieee, -EReal.coe_mul]; norm_num

/-- A row's mean: division by 64 is multiplication by its inverse. -/
theorem mean_eq (x : EReal) : Ideal.div x (Ideal.ofBits .f32 0x42800000#32) = x * Ideal.ofBits .f32 0x3C800000#32 := by
  rw [c64, c164, Ideal.div_coe (by norm_num)]

/-- A byte read without a sign. -/
theorem byte_toInt (b : BitVec 8) : FloatOps.uitofp (F := Ideal) .f32 b = (((b.setWidth 32).toInt : ℝ) : EReal) := by
  show ((b.toNat : ℝ) : EReal) = _
  have h : (b.setWidth 32).toInt = (b.toNat : ℤ) := by
    rw [BitVec.toInt_eq_toNat_of_lt (by rw [BitVec.toNat_setWidth]; have := b.isLt; omega), BitVec.toNat_setWidth, Nat.mod_eq_of_lt (by have := b.isLt; omega)]
  rw [h, Int.cast_natCast]

/-- A word shifted right by 8 read without a sign. -/
theorem shr_toInt (w : BitVec 32) : FloatOps.uitofp (F := Ideal) .f32 (IntOp.shrui ArithUnit.vector w 8#32)
    = (((IntOp.shrui ArithUnit.vector w 8#32).toInt : ℝ) : EReal) := by
  show (((IntOp.shrui ArithUnit.vector w 8#32).toNat : ℝ) : EReal) = _
  have e : IntOp.shrui ArithUnit.vector w 8#32 = w >>> (8 : ℕ) := by
    unfold IntOp.shrui
    rw [if_pos (by decide)]
    rfl
  have h : (IntOp.shrui ArithUnit.vector w 8#32).toInt = ((IntOp.shrui ArithUnit.vector w 8#32).toNat : ℤ) := by
    refine BitVec.toInt_eq_toNat_of_lt ?_
    rw [e, BitVec.toNat_ushiftRight, Nat.shiftRight_eq_div_pow]
    have := w.isLt
    omega
  rw [h, Int.cast_natCast]

/-- A value clipped to the range of a byte: read as a byte, or read as a signed word and cut to a byte, it is the same byte. -/
theorem clip_byte (x : EReal) (h0 : 0 ≤ x) (h1 : x ≤ ((255 : ℝ) : EReal)) : Ideal.fptoui 8 x = (Ideal.fptosi 32 x).setWidth 8 := by
  induction x using EReal.rec with
  | bot => exact absurd h0 (by simp)
  | top => exact absurd h1 (by simp)
  | coe r =>
    have h0' : (0 : ℝ) ≤ r := by exact_mod_cast h0
    have h1' : r ≤ 255 := by exact_mod_cast h1
    have f0 : 0 ≤ ⌊r⌋ := Int.floor_nonneg.2 h0'
    have f1 : ⌊r⌋ ≤ 255 := by
      have := Int.floor_mono h1'
      simpa using this
    unfold Ideal.fptoui Ideal.fptosi
    rw [Ideal.toIntClamped_coe, Ideal.toIntClamped_coe, if_pos h0']
    have e1 : max (0 : ℤ) (min (((2 ^ 8 : ℕ) : ℤ) - 1) ⌊r⌋) = ⌊r⌋ := by
      norm_num; omega
    have e2 : max (-((2 ^ (32 - 1) : ℕ) : ℤ)) (min (((2 ^ (32 - 1) : ℕ) : ℤ) - 1) ⌊r⌋) = ⌊r⌋ := by
      norm_num; omega
    rw [e1, e2]
    obtain ⟨k, hk⟩ := Int.eq_ofNat_of_zero_le f0
    rw [hk]
    refine BitVec.eq_of_toNat_eq ?_
    simp

theorem clip_nonneg (v : EReal) (rd : BitVec 32) : 0 ≤ clipV v rd :=
  le_min (by rw [c255]; exact_mod_cast (by norm_num : (0 : ℝ) ≤ 255)) (le_max_left _ _)

theorem clip_le (v : EReal) (rd : BitVec 32) : clipV v rd ≤ ((255 : ℝ) : EReal) := by
  unfold clipV
  rw [c255]
  exact min_le_left _ _

/-- The new code as an unsigned byte. -/
theorem qV_eq (w mn inv : EReal) (rd : BitVec 32) : Ideal.fptoui 8 (clipV ((w - mn) * inv) rd) = qV w mn inv rd :=
  clip_byte _ (clip_nonneg _ _) (clip_le _ _)

end Cert.Facts

end
-- ==== Proof.RPay.lean ====
/-
  The reference's body read at one row: the same update, one row at a time.
-/
module

public import proofs.«01_k».proof.Proof.Step
public import proofs.«01_k».proof.Proof.RFacts
public import proofs.«01_k».proof.Proof.Gen.ReferenceIdeal.Skeleton
public import Idealize.ShloMosaic.Lib.Pointwise
public import Idealize.ShloMosaic.Lib.Pipeline.Value

@[expose] public section

set_option maxRecDepth 16384

noncomputable section

namespace Cert.ReferenceIdeal.Pay
open Idealize.ShloMosaic Idealize.ShloMosaic.TcCoe Cert.ReferenceIdeal Cert.ReferenceIdeal.Gen Cert.Column Cert.Step Cert.Facts

variable (C : Vec Ideal S163840x64 .i8) (SC BI ST : Vec Ideal S163840 .f32) (G : Vec Ideal S163840x64 .f32) (RD : Vec Ideal S163840x64 .i32)

/-! ## Reductions over a row -/

/-- The greatest entry of a row. -/
theorem max_gen {N : ℕ} (W : FVec Ideal ⟨2, ![N, 64]⟩ .f32) (h : Shape.Reduces ⟨2, ![N, 64]⟩ [1] ⟨1, ![N]⟩) (n : Fin N) :
    multiReduction .maximumf [1] ⟨1, ![N]⟩ W 0xFF800000#32 h (.inl rfl) rfl (ix1 n) = mxV fun a => W (ix2 n a) := by
  refine (multiReduction_maximumf_eq_fold _ _ _ _ _ _).trans ?_
  exact Shape.Reduces.fold_fiber_r2_a1 _ _ _ _ _

/-- The least entry of a row. -/
theorem min_gen {N : ℕ} (W : FVec Ideal ⟨2, ![N, 64]⟩ .f32) (h : Shape.Reduces ⟨2, ![N, 64]⟩ [1] ⟨1, ![N]⟩) (n : Fin N) :
    multiReduction .minimumf [1] ⟨1, ![N]⟩ W 0x7F800000#32 h (.inl rfl) rfl (ix1 n) = mnV fun a => W (ix2 n a) := by
  refine (multiReduction_minimumf_eq_fold _ _ _ _ _ _).trans ?_
  exact Shape.Reduces.fold_fiber_r2_a1 _ _ _ _ _

/-! ## The body's values -/

/-- The new momentum of a row. -/
theorem pay3_at (n : Fin 163840) : k0_pay3 (F := Ideal) ST G (ix1 n) = stN G ST n := by
  pointwise [k0_pay3, k0_pay2]
  rw [mean_eq]
  rfl

/-- The updated weight of an entry. -/
theorem pay4_at (n : Fin 163840) (a : Fin 64) : k0_pay4 (F := Ideal) C SC BI ST G (ix2 n a) = wN G C SC BI ST n a := by
  pointwise [k0_pay4, k0_pay2, pay3_at]
  rw [byte_toInt]
  rfl

/-- The new bias of a row: its least updated weight. -/
theorem pay5_at (n : Fin 163840) : k0_pay5 (F := Ideal) C SC BI ST G (ix1 n) = mnV (wN G C SC BI ST n) := by
  unfold k0_pay5
  refine (min_gen _ _ n).trans ?_
  congr 1
  funext a
  exact pay4_at C SC BI ST G n a

/-- A vector seen as one column. -/
theorem cast_gen {N : ℕ} (v : FVec Ideal ⟨1, ![N]⟩ .f32) (h : Shape.ShapeCasts ⟨1, ![N]⟩ ⟨2, ![N, 1]⟩) (n : Fin N) (z : Fin 1) :
    shapeCast ⟨2, ![N, 1]⟩ v h (ix2 n z) = v (ix1 n) := by
  refine shapeCast_apply _ _ _ (ix1 n) ?_
  rw [Shape.rowMajor_val_two, Shape.rowMajor_val_one]
  show n.val = n.val * 1 + z.val
  omega

/-- The new bias seen as one column. -/
theorem pay9_at (n : Fin 163840) (z : Fin 1) : k0_pay9 (F := Ideal) C SC BI ST G (ix2 n z) = mnV (wN G C SC BI ST n) := by
  unfold k0_pay9
  exact (cast_gen _ _ n z).trans (pay5_at C SC BI ST G n)

/-- The difference, the scale and the inverse scale of any vectors at an index. -/
theorem sub_gen {N : ℕ} (x y : FVec Ideal ⟨1, ![N]⟩ .f32) (n : Fin N) : subf x y (ix1 n) = (x (ix1 n) - y (ix1 n) : EReal) := rfl

theorem sc_gen {N : ℕ} (x : FVec Ideal ⟨1, ![N]⟩ .f32) (n : Fin N) :
    divf x (broadcast ⟨1, ![N]⟩ (Scalar.ofBits (F := Ideal) .f32 0x437F0000#32)) (ix1 n) = Ideal.div (x (ix1 n)) (Ideal.ofBits .f32 0x437F0000#32) := rfl

theorem inv_gen {N : ℕ} (x : FVec Ideal ⟨1, ![N]⟩ .f32) (n : Fin N) :
    divf (broadcast ⟨1, ![N]⟩ (Scalar.ofBits (F := Ideal) .f32 0x437F0000#32))
        (addf x (broadcast ⟨1, ![N]⟩ (Scalar.ofBits (F := Ideal) .f32 0x322BCC77#32))) (ix1 n)
      = Ideal.div (Ideal.ofBits .f32 0x437F0000#32) ((x (ix1 n) : EReal) + Ideal.ofBits .f32 0x322BCC77#32) := rfl

/-- The greatest entry of a row less another value of the row. -/
theorem pay6_gen {N : ℕ} (W : FVec Ideal ⟨2, ![N, 64]⟩ .f32) (y : FVec Ideal ⟨1, ![N]⟩ .f32) (h : Shape.Reduces ⟨2, ![N, 64]⟩ [1] ⟨1, ![N]⟩) (n : Fin N) :
    subf (multiReduction .maximumf [1] ⟨1, ![N]⟩ W 0xFF800000#32 h (.inl rfl) rfl) y (ix1 n) = (mxV (fun a => W (ix2 n a)) - y (ix1 n) : EReal) := by
  refine (sub_gen _ _ n).trans ?_
  rw [max_gen]

/-- The range of a row. -/
theorem pay6_at (n : Fin 163840) : k0_pay6 (F := Ideal) C SC BI ST G (ix1 n) = mxV (wN G C SC BI ST n) - mnV (wN G C SC BI ST n) := by
  unfold k0_pay6
  refine (pay6_gen (k0_pay4 C SC BI ST G) (k0_pay5 C SC BI ST G) reduces_S163840x64_S163840 n).trans ?_
  rw [pay5_at]
  congr 2
  funext a
  exact pay4_at C SC BI ST G n a

/-- The new scale of a row. -/
theorem pay7_at (n : Fin 163840) : k0_pay7 (F := Ideal) C SC BI ST G (ix1 n) = scV (wN G C SC BI ST n) := by
  unfold k0_pay7 scV
  refine (sc_gen _ n).trans ?_
  rw [pay6_at]

/-- The inverse scale of a row. -/
theorem pay8_at (n : Fin 163840) : k0_pay8 (F := Ideal) C SC BI ST G (ix1 n) = invV (wN G C SC BI ST n) := by
  unfold k0_pay8 invV
  refine (inv_gen _ n).trans ?_
  rw [pay6_at]

/-- The last value for any weights, bias and inverse scale. -/
theorem pay1_gen (W : FVec Ideal S163840x64 .f32) (I : FVec Ideal S163840 .f32) (M : FVec Ideal S163840x1 .f32) (n : Fin 163840) (a : Fin 64) :
    k0_pay1 (F := Ideal) RD W I M (ix2 n a) = qV (W (ix2 n a)) (M (ix2 n 0)) (I (ix1 n)) (RD (ix2 n a)) := by
  pointwise [k0_pay1]
  rw [shr_toInt, ← qV_eq]
  rfl

/-- The new code of an entry. -/
theorem pay1_at (n : Fin 163840) (a : Fin 64) :
    k0_pay1 (F := Ideal) RD (k0_pay4 C SC BI ST G) (k0_pay8 C SC BI ST G) (k0_pay9 C SC BI ST G) (ix2 n a) = qN G C SC BI ST RD n a := by
  rw [pay1_gen, pay4_at, pay8_at, pay9_at]
  unfold qN
  rfl

end Cert.ReferenceIdeal.Pay

end
-- ==== Proof.RVal.lean ====
/-
  What the reference returns: the updated codes, scales, biases and momenta of the unique rows.
-/
module

public import proofs.«01_k».proof.Proof.RPay
public import proofs.«01_k».proof.Proof.RHost
public import Idealize.ShloMosaic.Lib.Pipeline.Value
public import Idealize.ShloMosaic.Lib.Pipeline.ValueKit

@[expose] public section

set_option maxRecDepth 16384

noncomputable section

namespace Cert.ReferenceIdeal.Val
open Idealize.ShloMosaic Idealize.ShloMosaic.TcCoe Idealize.ShloMosaic.Tactic Idealize.SL.Sem Cert.ReferenceIdeal Cert.ReferenceIdeal.Gen
open Idealize.ShloMosaic.Pipeline (Dat)
open Cert.Column Cert.Step Cert.ReferenceIdeal.Pay Cert.ReferenceIdeal.Host

/-- An index by its coordinates. -/
theorem eta2 {p q : ℕ} (x : (⟨2, ![p, q]⟩ : Shape).Idx) : x = ix2 (x 0) (x 1) := by
  funext b
  match b with
  | ⟨0, _⟩ => rfl
  | ⟨1, _⟩ => rfl

theorem eta1 {p : ℕ} (y : (⟨1, ![p]⟩ : Shape).Idx) : y = ix1 (y 0) := by
  funext b
  match b with
  | ⟨0, _⟩ => rfl

theorem z2 : (![0, 0] : Fin 2 → ℕ) = fun _ => 0 := funext fun a => by fin_cases a <;> rfl
theorem z1 : (![0] : Fin 1 → ℕ) = fun _ => 0 := funext fun a => by fin_cases a; rfl

/-- A load of a whole array is the array. -/
theorem ld2 {e : EltTy} (x : Vec Ideal S163840x64 e) : View.ld x r0_0 = x := View.ld_unit_zero z2 _ _
theorem ld1 {e : EltTy} (x : Vec Ideal S163840 e) : View.ld x r0_1 = x := View.ld_unit_zero z1 _ _

/-! ## What the body leaves, from whole arrays -/

section Body
variable (C : Vec Ideal S163840x64 .i8) (SC BI ST : Vec Ideal S163840 .f32) (G : Vec Ideal S163840x64 .f32) (RD : Vec Ideal S163840x64 .i32)

/-- The codes, the scales, the biases and the momenta that the body leaves. -/
theorem out6_eq : out0_6 (F := Ideal) C SC BI ST G RD = newCodes G C SC BI ST RD := by
  unfold out0_6
  rw [View.canon_unit_zero z2]
  simp only [ld2, ld1]
  funext y
  rw [eta2 y]
  exact pay1_at C SC BI ST G RD (y 0) (y 1)

theorem out7_eq : out0_7 (F := Ideal) C SC BI ST G RD = newScale G C SC BI ST := by
  unfold out0_7
  rw [View.canon_unit_zero z1]
  simp only [ld2, ld1]
  funext y
  rw [eta1 y]
  exact pay7_at C SC BI ST G (y 0)

theorem out8_eq : out0_8 (F := Ideal) C SC BI ST G RD = newBias G C SC BI ST := by
  unfold out0_8
  rw [View.canon_unit_zero z1]
  simp only [ld2, ld1]
  funext y
  rw [eta1 y]
  exact pay5_at C SC BI ST G (y 0)

theorem out9_eq : out0_9 (F := Ideal) C SC BI ST G RD = newState G ST := by
  unfold out0_9
  rw [View.canon_unit_zero z1]
  simp only [ld2, ld1]
  funext y
  rw [eta1 y]
  exact pay3_at ST G (y 0)

end Body

/-! ## The blocks are the whole arrays -/

variable (m : (ℓ : Loc nD τ sig) → Buf (Elt Ideal) ℓ) (ρ : Dev nD → PrngReg) (c : Dev nD)

/-- Every window has one block, at the array's start. -/
theorem index0 : ∀ t : Fin cfg0.N, win0_0.index t = ![0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0] := (by decide +kernel : ∀ t : Fin grid0.N, _)
theorem index3 : ∀ t : Fin cfg0.N, win0_3.index t = ![0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0] := (by decide +kernel : ∀ t : Fin grid0.N, _)
theorem index8 : ∀ t : Fin cfg0.N, win0_8.index t = ![0] := (by decide +kernel : ∀ t : Fin grid0.N, _)
theorem index9 : ∀ t : Fin cfg0.N, win0_9.index t = ![0] := (by decide +kernel : ∀ t : Fin grid0.N, _)

/-- So what the body is given of each input is the whole array. -/
theorem blk0 (t : Fin cfg0.N) : (iblk m c 0 t : Vec Ideal S163840x64 .i8) = V m c main_v13 := by
  funext y
  blk_simp [iblk]
  refine congrArg (V m c main_v13) ?_
  blk_ext [index0 t]

theorem blk1 (t : Fin cfg0.N) : (iblk m c 1 t : Vec Ideal S163840 .f32) = V m c main_v20 := by
  funext y
  blk_simp [iblk]
  refine congrArg (V m c main_v20) ?_
  blk_ext [index1 t]

theorem blk2 (t : Fin cfg0.N) : (iblk m c 2 t : Vec Ideal S163840 .f32) = V m c main_v27 := by
  funext y
  blk_simp [iblk]
  refine congrArg (V m c main_v27) ?_
  blk_ext [index2 t]

theorem blk3 (t : Fin cfg0.N) : (iblk m c 3 t : Vec Ideal S163840 .f32) = V m c main_v34 := by
  funext y
  blk_simp [iblk]
  refine congrArg (V m c main_v34) ?_
  blk_ext [index3 t]

theorem blk4 (t : Fin cfg0.N) : (iblk m c 4 t : Vec Ideal S163840x64 .f32) = V m c main_v6 := by
  funext y
  blk_simp [iblk]
  refine congrArg (V m c main_v6) ?_
  blk_ext [index4 t]

theorem blk5 (t : Fin cfg0.N) : (iblk m c 5 t : Vec Ideal S163840x64 .i32) = V m c main_arg7 := by
  funext y
  blk_simp [iblk]
  refine congrArg (V m c main_arg7) ?_
  blk_ext [index5 t]

/-! ## The four result arrays -/

/-- The gathered operands. -/
def G : Vec Ideal S163840x64 .f32 := grad (m ((c : Thread nD τ).loc main_arg5)) (m ((c : Thread nD τ).loc main_arg6))
def C : Vec Ideal S163840x64 .i8 := codes (m ((c : Thread nD τ).loc main_arg0)) (m ((c : Thread nD τ).loc main_arg4))
def SC : Vec Ideal S163840 .f32 := vec (m ((c : Thread nD τ).loc main_arg1)) (m ((c : Thread nD τ).loc main_arg4))
def BI : Vec Ideal S163840 .f32 := vec (m ((c : Thread nD τ).loc main_arg2)) (m ((c : Thread nD τ).loc main_arg4))
def ST : Vec Ideal S163840 .f32 := vec (m ((c : Thread nD τ).loc main_arg3)) (m ((c : Thread nD τ).loc main_arg4))
def RD : Vec Ideal S163840x64 .i32 := m ((c : Thread nD τ).loc main_arg7)

/-- The inputs' blocks are the gathered operands. -/
theorem b0 (t : Fin cfg0.N) : (iblk m c 0 t : Vec Ideal S163840x64 .i8) = C m c := (blk0 m c t).trans (V_codes m c)
theorem b1 (t : Fin cfg0.N) : (iblk m c 1 t : Vec Ideal S163840 .f32) = SC m c := (blk1 m c t).trans (V_scale m c)
theorem b2 (t : Fin cfg0.N) : (iblk m c 2 t : Vec Ideal S163840 .f32) = BI m c := (blk2 m c t).trans (V_bias m c)
theorem b3 (t : Fin cfg0.N) : (iblk m c 3 t : Vec Ideal S163840 .f32) = ST m c := (blk3 m c t).trans (V_momentum m c)
theorem b4 (t : Fin cfg0.N) : (iblk m c 4 t : Vec Ideal S163840x64 .f32) = G m c := (blk4 m c t).trans (V_grad m c)
theorem b5 (t : Fin cfg0.N) : (iblk m c 5 t : Vec Ideal S163840x64 .i32) = RD m c := (blk5 m c t).trans (V_main_arg7 m c)

/-- What the body leaves of each result, from the gathered operands. -/
theorem aft6 (t : Fin cfg0.N) : ((dats m 0 c).after 6 t : Vec Ideal S163840x64 .i8) = newCodes (G m c) (C m c) (SC m c) (BI m c) (ST m c) (RD m c) := by
  refine (after0_6 m c t).trans ?_
  rw [b0, b1, b2, b3, b4, b5]
  exact out6_eq _ _ _ _ _ _

theorem aft7 (t : Fin cfg0.N) : ((dats m 0 c).after 7 t : Vec Ideal S163840 .f32) = newScale (G m c) (C m c) (SC m c) (BI m c) (ST m c) := by
  refine (after0_7 m c t).trans ?_
  rw [b0, b1, b2, b3, b4, b5]
  exact out7_eq _ _ _ _ _ _

theorem aft8 (t : Fin cfg0.N) : ((dats m 0 c).after 8 t : Vec Ideal S163840 .f32) = newBias (G m c) (C m c) (SC m c) (BI m c) (ST m c) := by
  refine (after0_8 m c t).trans ?_
  rw [b0, b1, b2, b3, b4, b5]
  exact out8_eq _ _ _ _ _ _

theorem aft9 (t : Fin cfg0.N) : ((dats m 0 c).after 9 t : Vec Ideal S163840 .f32) = newState (G m c) (ST m c) := by
  refine (after0_9 m c t).trans ?_
  rw [b0, b1, b2, b3, b4, b5]
  exact out9_eq _ _ _ _ _ _

/-- What each result array ends with. -/
theorem arr6 : (dats m 0 c).arrAt 6 cfg0.N = newCodes (G m c) (C m c) (SC m c) (BI m c) (ST m c) (RD m c) := by
  refine (dats m 0 c).arrAt_eq_of_covers 6 _ (by decide +kernel) fun t hf y => ?_
  blk_simp
  refine (congrFun (aft6 m c t) y).trans (congrArg (newCodes (G m c) (C m c) (SC m c) (BI m c) (ST m c) (RD m c)) ?_)
  blk_ext [index6 t]

theorem arr7 : (dats m 0 c).arrAt 7 cfg0.N = newScale (G m c) (C m c) (SC m c) (BI m c) (ST m c) := by
  refine (dats m 0 c).arrAt_eq_of_covers 7 _ (by decide +kernel) fun t hf y => ?_
  blk_simp
  refine (congrFun (aft7 m c t) y).trans (congrArg (newScale (G m c) (C m c) (SC m c) (BI m c) (ST m c)) ?_)
  blk_ext [index7 t]

theorem arr8 : (dats m 0 c).arrAt 8 cfg0.N = newBias (G m c) (C m c) (SC m c) (BI m c) (ST m c) := by
  refine (dats m 0 c).arrAt_eq_of_covers 8 _ (by decide +kernel) fun t hf y => ?_
  blk_simp
  refine (congrFun (aft8 m c t) y).trans (congrArg (newBias (G m c) (C m c) (SC m c) (BI m c) (ST m c)) ?_)
  blk_ext [index8 t]

theorem arr9 : (dats m 0 c).arrAt 9 cfg0.N = newState (G m c) (ST m c) := by
  refine (dats m 0 c).arrAt_eq_of_covers 9 _ (by decide +kernel) fun t hf y => ?_
  blk_simp
  refine (congrFun (aft9 m c t) y).trans (congrArg (newState (G m c) (ST m c)) ?_)
  blk_ext [index9 t]

/-- Every run of the reference ends with the four results at the update of the gathered rows. -/
theorem run : θ_run defs (onTc (τ := τ) (main (F := Ideal))) ⟨m, fun _ => 0, ρ⟩ (fun r => ∀ c : Dev nD,
      r.2.mem ((c.tc : Thread nD τ).loc main_v35_0) = newCodes (G m c) (C m c) (SC m c) (BI m c) (ST m c) (RD m c)
      ∧ r.2.mem ((c.tc : Thread nD τ).loc main_v35_1) = newScale (G m c) (C m c) (SC m c) (BI m c) (ST m c)
      ∧ r.2.mem ((c.tc : Thread nD τ).loc main_v35_2) = newBias (G m c) (C m c) (SC m c) (BI m c) (ST m c)
      ∧ r.2.mem ((c.tc : Thread nD τ).loc main_v35_3) = newState (G m c) (ST m c)) :=
  (θ_run defs _ _).mono (fun _ h c =>
    ⟨((h c).1 6).trans (arr6 m c), ((h c).1 7).trans (arr7 m c), ((h c).1 8).trans (arr8 m c), ((h c).1 9).trans (arr9 m c)⟩) (Gen.run_main m ρ)

end Cert.ReferenceIdeal.Val

end
-- ==== Proof.Equal.lean ====
/-
  Over the extended reals the kernel and the reference compute the same four results.
-/
module

public import proofs.«01_k».proof.Defs
public import proofs.«01_k».proof.Proof.HostEq
public import proofs.«01_k».proof.Proof.KRes
public import proofs.«01_k».proof.Proof.RVal
public import Idealize.ShloMosaic.Lib.Claim

@[expose] public section

set_option maxRecDepth 16384

noncomputable section

namespace Cert.Equal
open Idealize.ShloMosaic Idealize.SL.Sem Cert.Step

section Operands
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The gathered operands agree where the arguments do. -/
theorem G_eq
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.G m' c = Cert.KernelIdeal.Val.G m c :=
  (congrArg₂ Cert.ReferenceIdeal.Host.grad h5 h6).trans (Cert.HostEq.grad_eq _ _)

theorem C_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.C m' c = Cert.KernelIdeal.Val.C m c :=
  (congrArg₂ Cert.ReferenceIdeal.Host.codes h0 h4).trans (Cert.HostEq.codes_eq _ _)

theorem SC_eq
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.SC m' c = Cert.KernelIdeal.Val.SC m c :=
  (congrArg₂ Cert.ReferenceIdeal.Host.vec h1 h4).trans (Cert.HostEq.vec_eq _ _)

theorem BI_eq
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.BI m' c = Cert.KernelIdeal.Val.BI m c :=
  (congrArg₂ Cert.ReferenceIdeal.Host.vec h2 h4).trans (Cert.HostEq.vec_eq _ _)

theorem ST_eq
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.ST m' c = Cert.KernelIdeal.Val.ST m c :=
  (congrArg₂ Cert.ReferenceIdeal.Host.vec h3 h4).trans (Cert.HostEq.vec_eq _ _)

theorem RD_eq
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Val.RD m' c = Cert.KernelIdeal.Val.RD m c := h7

end Operands

/-- From the same arguments both programs end with the same four arrays, the arguments unchanged. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => newCodes (Cert.KernelIdeal.Val.G m c) (Cert.KernelIdeal.Val.C m c) (Cert.KernelIdeal.Val.SC m c) (Cert.KernelIdeal.Val.BI m c) (Cert.KernelIdeal.Val.ST m c) (Cert.KernelIdeal.Val.RD m c),
    fun c => newScale (Cert.KernelIdeal.Val.G m c) (Cert.KernelIdeal.Val.C m c) (Cert.KernelIdeal.Val.SC m c) (Cert.KernelIdeal.Val.BI m c) (Cert.KernelIdeal.Val.ST m c),
    fun c => newBias (Cert.KernelIdeal.Val.G m c) (Cert.KernelIdeal.Val.C m c) (Cert.KernelIdeal.Val.SC m c) (Cert.KernelIdeal.Val.BI m c) (Cert.KernelIdeal.Val.ST m c),
    fun c => newState (Cert.KernelIdeal.Val.G m c) (Cert.KernelIdeal.Val.ST m c), ?_, ?_⟩
  · exact (θ_run _ _ _).mono (fun _ h c => ⟨(h.1 c).1, (h.1 c).2.1, (h.1 c).2.2.1, (h.1 c).2.2.2, h.2 c⟩)
      (θ_run_and (Cert.KernelIdeal.Res.run m g) (Cert.KernelIdeal.Run.unchanged m g))
  · refine (θ_run _ _ _).mono (fun r h c => ?_) (θ_run_and (Cert.ReferenceIdeal.Val.run m' g') (Cert.ReferenceIdeal.Gen.unchanged m' g'))
    obtain ⟨k0, k1, k2, k3, k4, k5, k6, k7⟩ := hm c
    obtain ⟨r0, r1, r2, r3⟩ := h.1 c
    rw [G_eq m m' c k5 k6, C_eq m m' c k0 k4, SC_eq m m' c k1 k4, BI_eq m m' c k2 k4, ST_eq m m' c k3 k4, RD_eq m m' c k7] at r0
    rw [G_eq m m' c k5 k6, C_eq m m' c k0 k4, SC_eq m m' c k1 k4, BI_eq m m' c k2 k4, ST_eq m m' c k3 k4] at r1 r2
    rw [G_eq m m' c k5 k6, ST_eq m m' c k3 k4] at r3
    exact ⟨r0, r1, r2, r3, h.2 c⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Run
public import proofs.«01_k».proof.Proof.Gen.ReferenceIdeal
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ, trivial, Cert.Equal.algebraic⟩

end Cert.Proof

end
